-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_ids_in_table_plain_norm [hPre_ids_in_table_plain_norm : Cert.Pre_ids_in_table_plain_norm.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_plain_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_plain_norm [hPre_ids_in_table_plain_norm : Cert.Pre_ids_in_table_plain_norm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_plain_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ids_in_table_plain_norm [hKernelIdeal : Cert.KernelIdeal.Facts] [hPre_ids_in_table_plain_norm : Cert.Pre_ids_in_table_plain_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_plain_norm m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_in_table_plain_norm [hReferenceIdeal : Cert.ReferenceIdeal.Facts] [hPre_ids_in_table_plain_norm : Cert.Pre_ids_in_table_plain_norm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_plain_norm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_ids_in_table_plain_norm [hKernelIdeal : Cert.KernelIdeal.Facts] [hReferenceIdeal : Cert.ReferenceIdeal.Facts] [hPre_ids_in_table_plain_norm : Cert.Pre_ids_in_table_plain_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_plain_norm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_table : Cert.Pre_ids_in_table.Facts) (hPre_ids_in_table_plain_norm : Cert.Pre_ids_in_table_plain_norm.Facts),
    quiescent_Kernel (hKernel := hKernel) (hPre_ids_in_table := hPre_ids_in_table)
    ∧ quiescent_KernelIdeal (hKernelIdeal := hKernelIdeal) (hPre_ids_in_table := hPre_ids_in_table)
    ∧ quiescent_KernelIdeal_pre_ids_in_table_plain_norm (hKernelIdeal := hKernelIdeal) (hPre_ids_in_table_plain_norm := hPre_ids_in_table_plain_norm)
    ∧ quiescent_ReferenceIdeal (hReferenceIdeal := hReferenceIdeal)
    ∧ quiescent_ReferenceIdeal_pre_ids_in_table_plain_norm (hReferenceIdeal := hReferenceIdeal) (hPre_ids_in_table_plain_norm := hPre_ids_in_table_plain_norm)
    ∧ preserves_Kernel_KernelIdeal
    ∧ algebraic_KernelIdeal_ReferenceIdeal_pre_ids_in_table_plain_norm (hKernelIdeal := hKernelIdeal) (hReferenceIdeal := hReferenceIdeal) (hPre_ids_in_table_plain_norm := hPre_ids_in_table_plain_norm)
-- ==== Pre_ids_in_table.lean ====
abbrev S1024x200 : Shape := ⟨2, ![1024, 200]⟩
abbrev S100000x128 : Shape := ⟨2, ![100000, 128]⟩
abbrev S301x128 : Shape := ⟨2, ![301, 128]⟩
abbrev S256x1024 : Shape := ⟨2, ![256, 1024]⟩
abbrev S1024 : Shape := ⟨1, ![1024]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : IVec S1024x200 32) (main_arg2 : FVec F S100000x128 .f32) (main_arg3 : FVec F S301x128 .f32) (main_arg4 : FVec F S256x1024 .f32) (main_arg5 : FVec F S1024 .f32) (main_arg6 : FVec F S1024 .f32) (main_arg7 : FVec F S1024 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Pre_ids_in_table_plain_norm.lean ====
abbrev S1024x200 : Shape := ⟨2, ![1024, 200]⟩
abbrev S100000x128 : Shape := ⟨2, ![100000, 128]⟩
abbrev S301x128 : Shape := ⟨2, ![301, 128]⟩
abbrev S256x1024 : Shape := ⟨2, ![256, 1024]⟩
abbrev S1024 : Shape := ⟨1, ![1024]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S301x128 : S_.BroadcastsInDim S301x128 (![] : Fin 0 → Fin S301x128.rank)
  reducesTo_S301x128_S_d0_1 : S301x128.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_arg0 : IVec S1024x200 32) (main_arg6 : FVec F S1024 .f32) (main_arg7 : FVec F S1024 .f32) (main_v13 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_cst_6 : FVec F S_ .f32 := constant S_ .f32 0x3F800000#32
  let main_v17 : FVec F S1024 .f32 := broadcastInDim S1024 ![] bcast_S_S1024 main_cst_6
  let main_v18 : IVec S1024 1 := cmpf .oeq main_arg6 main_v17
  let main_c_7 : IVec S_ 1 := constantI S_ 1 1#1
  let main_v19 : IVec S_ 1 := (fun x v => Host.reduce IntOp.andi x v reducesTo_S1024_S_d0 h_S_) main_v18 main_c_7
  let main_v20 : IVec S_ 1 := andi main_v16 main_v19
  let main_cst_8 : FVec F S_ .f32 := constant S_ .f32 0x00000000#32
  let main_v21 : FVec F S1024 .f32 := broadcastInDim S1024 ![] bcast_S_S1024 main_cst_8
  let main_v22 : IVec S1024 1 := cmpf .oeq main_arg7 main_v21
  let main_c_9 : IVec S_ 1 := constantI S_ 1 1#1
  let main_v23 : IVec S_ 1 := (fun x v => Host.reduce IntOp.andi x v reducesTo_S1024_S_d0 h_S_) main_v22 main_c_9
  let main_v24 : IVec S_ 1 := andi main_v20 main_v23
  let main_c_10 : IVec S_ 32 := constantI S_ 32 0#32
  let main_v25 : IVec S1024x200 32 := broadcastInDim S1024x200 ![] bcast_S_S1024x200 main_c_10
  let main_v26 : IVec S1024x200 1 := cmpi .sge main_arg0 main_v25
  let main_c_11 : IVec S_ 32 := constantI S_ 32 100000#32
  let main_v27 : IVec S1024x200 32 := broadcastInDim S1024x200 ![] bcast_S_S1024x200 main_c_11
  let main_v28 : IVec S1024x200 1 := cmpi .slt main_arg0 main_v27
  let main_v29 : IVec S1024x200 1 := andi main_v26 main_v28
  let main_c_12 : IVec S_ 1 := constantI S_ 1 1#1
  let main_v30 : IVec S_ 1 := (fun x v => Host.reduce IntOp.andi x v reducesTo_S1024x200_S_d0_1 h_S_) main_v29 main_c_12
  let main_v31 : IVec S_ 1 := andi main_v30 main_v13
  let main_v32 : IVec S_ 1 := andi main_v31 main_v24
  main_v32

def fn {F : FTy → Type} [FloatOps F] (main_arg0 : IVec S1024x200 32) (main_arg1 : IVec S1024x200 32) (main_arg2 : FVec F S100000x128 .f32) (main_arg3 : FVec F S301x128 .f32) (main_arg4 : FVec F S256x1024 .f32) (main_arg5 : FVec F S1024 .f32) (main_arg6 : FVec F S1024 .f32) (main_arg7 : FVec F S1024 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S301x128 .f32 := Host.absf main_arg3
  let main_cst_0 : FVec F S_ .f32 := constant S_ .f32 0x7F800000#32
  let main_v5 : FVec F S301x128 .f32 := broadcastInDim S301x128 ![] bcast_S_S301x128 main_cst_0
  let main_v6 : IVec S301x128 1 := cmpf .olt main_v4 main_v5
  let main_c_1 : IVec S_ 1 := constantI S_ 1 1#1
  let main_v7 : IVec S_ 1 := (fun x v => Host.reduce IntOp.andi x v reducesTo_S301x128_S_d0_1 h_S_) main_v6 main_c_1
  let main_v8 : IVec S_ 1 := andi main_v3 main_v7
  let main_v9 : FVec F S256x1024 .f32 := Host.absf main_arg4
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_cst_4 : FVec F S_ .f32 := constant S_ .f32 0x00000000#32
  let main_v14 : FVec F S1024 .f32 := broadcastInDim S1024 ![] bcast_S_S1024 main_cst_4
  let main_v15 : IVec S1024 1 := cmpf .oeq main_arg5 main_v14
  let main_c_5 : IVec S_ 1 := constantI S_ 1 1#1
  fn_part1 (F := F) main_arg0 main_arg6 main_arg7 main_v13 main_v15 main_c_5
-- ==== Kernel.lean ====
abbrev S1024x200 : Shape := ⟨2, ![1024, 200]⟩
abbrev S100000x128 : Shape := ⟨2, ![100000, 128]⟩
abbrev S301x128 : Shape := ⟨2, ![301, 128]⟩
abbrev S256x1024 : Shape := ⟨2, ![256, 1024]⟩
abbrev S1024 : Shape := ⟨1, ![1024]⟩
abbrev S204800 : Shape := ⟨1, ![204800]⟩
abbrev S_ : Shape := ⟨0, ![]⟩
abbrev S304x128 : Shape := ⟨2, ![304, 128]⟩
abbrev S256x128 : Shape := ⟨2, ![256, 128]⟩
abbrev S256 : Shape := ⟨1, ![256]⟩
abbrev S256x1 : Shape := ⟨2, ![256, 1]⟩
abbrev S16384 : Shape := ⟨1, ![16384]⟩
abbrev S32x4x128 : Shape := ⟨3, ![32, 4, 128]⟩
abbrev S128x128x128 : Shape := ⟨3, ![128, 128, 128]⟩
abbrev S4x128 : Shape := ⟨2, ![4, 128]⟩
abbrev S128x128 : Shape := ⟨2, ![128, 128]⟩
abbrev S1x4x128 : Shape := ⟨3, ![1, 4, 128]⟩
abbrev S1x128 : Shape := ⟨2, ![1, 128]⟩
abbrev S128 : Shape := ⟨1, ![128]⟩
abbrev S1x128x128 : Shape := ⟨3, ![1, 128, 128]⟩
abbrev S49152 : Shape := ⟨1, ![49152]⟩
abbrev S32x12x128 : Shape := ⟨3, ![32, 12, 128]⟩
abbrev S384x128x128 : Shape := ⟨3, ![384, 128, 128]⟩
abbrev S12x128 : Shape := ⟨2, ![12, 128]⟩
abbrev S1x12x128 : Shape := ⟨3, ![1, 12, 128]⟩
abbrev S139264 : Shape := ⟨1, ![139264]⟩
abbrev S32x34x128 : Shape := ⟨3, ![32, 34, 128]⟩
abbrev S1088x128x128 : Shape := ⟨3, ![1088, 128, 128]⟩
abbrev S34x128 : Shape := ⟨2, ![34, 128]⟩
abbrev S1x34x128 : Shape := ⟨3, ![1, 34, 128]⟩
abbrev S4x1x4096 : Shape := ⟨3, ![4, 1, 4096]⟩
abbrev S204800x1024 : Shape := ⟨2, ![204800, 1024]⟩
abbrev S32x128x128 : Shape := ⟨3, ![32, 128, 128]⟩
abbrev S1x1x4096 : Shape := ⟨3, ![1, 1, 4096]⟩
abbrev S4096x1024 : Shape := ⟨2, ![4096, 1024]⟩
abbrev S4096 : Shape := ⟨1, ![4096]⟩
abbrev S4096x304 : Shape := ⟨2, ![4096, 304]⟩
abbrev S4096x1 : Shape := ⟨2, ![4096, 1]⟩
abbrev S4096x128 : Shape := ⟨2, ![4096, 128]⟩
abbrev S4096x256 : Shape := ⟨2, ![4096, 256]⟩
abbrev S12x1x4096 : Shape := ⟨3, ![12, 1, 4096]⟩
abbrev S34x1x4096 : Shape := ⟨3, ![34, 1, 4096]⟩
abbrev S1024x200x1024 : Shape := ⟨3, ![1024, 200, 1024]⟩

abbrev nBuf : Table → Nat
  | .hbm => 41
  | .local .tc .vmem => 29
  | .local .scVector .vmem => 6
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S301x128, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S204800, .i32⟩
  | .hbm, ⟨9, _⟩ => ⟨S204800, .i32⟩
  | .hbm, ⟨10, _⟩ => ⟨S_, .i32⟩
  | .hbm, ⟨11, _⟩ => ⟨S_, .f32⟩
  | .hbm, ⟨12, _⟩ => ⟨S304x128, .f32⟩
  | .hbm, ⟨13, _⟩ => ⟨S304x128, .bf16⟩
  | .hbm, ⟨14, _⟩ => ⟨S256x1024, .bf16⟩
  | .hbm, ⟨15, _⟩ => ⟨S256x128, .bf16⟩
  | .hbm, ⟨16, _⟩ => ⟨S_, .i32⟩
  | .hbm, ⟨17, _⟩ => ⟨S16384, .i32⟩
  | .hbm, ⟨18, _⟩ => ⟨S32x4x128, .i32⟩
  | .hbm, ⟨19, _⟩ => ⟨S128x128x128, .f32⟩
  | .hbm, ⟨20, _⟩ => ⟨S_, .i32⟩
  | .hbm, ⟨21, _⟩ => ⟨S49152, .i32⟩
  | .hbm, ⟨22, _⟩ => ⟨S32x12x128, .i32⟩
  | .hbm, ⟨23, _⟩ => ⟨S384x128x128, .f32⟩
  | .hbm, ⟨24, _⟩ => ⟨S_, .i32⟩
  | .hbm, ⟨25, _⟩ => ⟨S139264, .i32⟩
  | .hbm, ⟨26, _⟩ => ⟨S32x34x128, .i32⟩
  | .hbm, ⟨27, _⟩ => ⟨S1088x128x128, .f32⟩
  | .hbm, ⟨28, _⟩ => ⟨S_, .i32⟩
  | .hbm, ⟨29, _⟩ => ⟨S16384, .i32⟩
  | .hbm, ⟨30, _⟩ => ⟨S4x1x4096, .i32⟩
  | .hbm, ⟨31, _⟩ => ⟨S204800x1024, .f32⟩
  | .hbm, ⟨32, _⟩ => ⟨S_, .i32⟩
  | .hbm, ⟨33, _⟩ => ⟨S49152, .i32⟩
  | .hbm, ⟨34, _⟩ => ⟨S12x1x4096, .i32⟩
  | .hbm, ⟨35, _⟩ => ⟨S204800x1024, .f32⟩
  | .hbm, ⟨36, _⟩ => ⟨S_, .i32⟩
  | .hbm, ⟨37, _⟩ => ⟨S139264, .i32⟩
  | .hbm, ⟨38, _⟩ => ⟨S34x1x4096, .i32⟩
  | .hbm, ⟨39, _⟩ => ⟨S204800x1024, .f32⟩
  | .hbm, ⟨40, _⟩ => ⟨S1024x200x1024, .f32⟩
  | .local .tc .vmem, ⟨0, _⟩ => ⟨S256x1024, .f32⟩
  | .local .tc .vmem, ⟨1, _⟩ => ⟨S256x128, .bf16⟩
  | .local .tc .vmem, ⟨2, _⟩ => ⟨S32x128x128, .f32⟩
  | .local .tc .vmem, ⟨3, _⟩ => ⟨S32x128x128, .f32⟩
  | .local .tc .vmem, ⟨4, _⟩ => ⟨S1x1x4096, .i32⟩
  | .local .tc .vmem, ⟨5, _⟩ => ⟨S1x1x4096, .i32⟩
  | .local .tc .vmem, ⟨6, _⟩ => ⟨S304x128, .bf16⟩
  | .local .tc .vmem, ⟨7, _⟩ => ⟨S256x1024, .bf16⟩
  | .local .tc .vmem, ⟨8, _⟩ => ⟨S256x128, .bf16⟩
  | .local .tc .vmem, ⟨9, _⟩ => ⟨S4096x1024, .f32⟩
  | .local .tc .vmem, ⟨10, _⟩ => ⟨S4096x1024, .f32⟩
  | .local .tc .vmem, ⟨11, _⟩ => ⟨S32x128x128, .f32⟩
  | .local .tc .vmem, ⟨12, _⟩ => ⟨S32x128x128, .f32⟩
  | .local .tc .vmem, ⟨13, _⟩ => ⟨S1x1x4096, .i32⟩
  | .local .tc .vmem, ⟨14, _⟩ => ⟨S1x1x4096, .i32⟩
  | .local .tc .vmem, ⟨15, _⟩ => ⟨S304x128, .bf16⟩
  | .local .tc .vmem, ⟨16, _⟩ => ⟨S256x1024, .bf16⟩
  | .local .tc .vmem, ⟨17, _⟩ => ⟨S256x128, .bf16⟩
  | .local .tc .vmem, ⟨18, _⟩ => ⟨S4096x1024, .f32⟩
  | .local .tc .vmem, ⟨19, _⟩ => ⟨S4096x1024, .f32⟩
  | .local .tc .vmem, ⟨20, _⟩ => ⟨S32x128x128, .f32⟩
  | .local .tc .vmem, ⟨21, _⟩ => ⟨S32x128x128, .f32⟩
  | .local .tc .vmem, ⟨22, _⟩ => ⟨S1x1x4096, .i32⟩
  | .local .tc .vmem, ⟨23, _⟩ => ⟨S1x1x4096, .i32⟩
  | .local .tc .vmem, ⟨24, _⟩ => ⟨S304x128, .bf16⟩
  | .local .tc .vmem, ⟨25, _⟩ => ⟨S256x1024, .bf16⟩
  | .local .tc .vmem, ⟨26, _⟩ => ⟨S256x128, .bf16⟩
  | .local .tc .vmem, ⟨27, _⟩ => ⟨S4096x1024, .f32⟩
  | .local .tc .vmem, ⟨28, _⟩ => ⟨S4096x1024, .f32⟩
  | .local .scVector .vmem, ⟨0, _⟩ => ⟨S4x128, .i32⟩
  | .local .scVector .vmem, ⟨1, _⟩ => ⟨S128x128, .f32⟩
  | .local .scVector .vmem, ⟨2, _⟩ => ⟨S12x128, .i32⟩
  | .local .scVector .vmem, ⟨3, _⟩ => ⟨S128x128, .f32⟩
  | .local .scVector .vmem, ⟨4, _⟩ => ⟨S34x128, .i32⟩
  | .local .scVector .vmem, ⟨5, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 38 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTables nBuf rfl bufTy 4 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v7_scv : Ref sig .scVector := ⟨.hbm, 18, rfl⟩
abbrev main_arg2_scv : Ref sig .scVector := ⟨.hbm, 2, rfl⟩
abbrev main_v8_scv : Ref sig .scVector := ⟨.hbm, 19, rfl⟩
abbrev main_v10_scv : Ref sig .scVector := ⟨.hbm, 22, rfl⟩
abbrev main_v11_scv : Ref sig .scVector := ⟨.hbm, 23, rfl⟩
abbrev main_v13_scv : Ref sig .scVector := ⟨.hbm, 26, rfl⟩
abbrev main_v14_scv : Ref sig .scVector := ⟨.hbm, 27, rfl⟩
abbrev cc0_stg0_0 : Ref sig .tc := ⟨.vmem, 0, rfl⟩
abbrev cc0_stg1_0 : Ref sig .tc := ⟨.vmem, 1, rfl⟩
abbrev cc4_stg0_0 : Ref sig .tc := ⟨.vmem, 2, rfl⟩
abbrev cc4_stg0_1 : Ref sig .tc := ⟨.vmem, 3, rfl⟩
abbrev cc4_stg1_0 : Ref sig .tc := ⟨.vmem, 4, rfl⟩
abbrev cc4_stg1_1 : Ref sig .tc := ⟨.vmem, 5, rfl⟩
abbrev cc4_stg2_0 : Ref sig .tc := ⟨.vmem, 6, rfl⟩
abbrev cc4_stg3_0 : Ref sig .tc := ⟨.vmem, 7, rfl⟩
abbrev cc4_stg4_0 : Ref sig .tc := ⟨.vmem, 8, rfl⟩
abbrev cc4_stg5_0 : Ref sig .tc := ⟨.vmem, 9, rfl⟩
abbrev cc4_stg5_1 : Ref sig .tc := ⟨.vmem, 10, rfl⟩
abbrev cc5_stg0_0 : Ref sig .tc := ⟨.vmem, 11, rfl⟩
abbrev cc5_stg0_1 : Ref sig .tc := ⟨.vmem, 12, rfl⟩
abbrev cc5_stg1_0 : Ref sig .tc := ⟨.vmem, 13, rfl⟩
abbrev cc5_stg1_1 : Ref sig .tc := ⟨.vmem, 14, rfl⟩
abbrev cc5_stg2_0 : Ref sig .tc := ⟨.vmem, 15, rfl⟩
abbrev cc5_stg3_0 : Ref sig .tc := ⟨.vmem, 16, rfl⟩
abbrev cc5_stg4_0 : Ref sig .tc := ⟨.vmem, 17, rfl⟩
abbrev cc5_stg5_0 : Ref sig .tc := ⟨.vmem, 18, rfl⟩
abbrev cc5_stg5_1 : Ref sig .tc := ⟨.vmem, 19, rfl⟩
abbrev cc6_stg0_0 : Ref sig .tc := ⟨.vmem, 20, rfl⟩
abbrev cc6_stg0_1 : Ref sig .tc := ⟨.vmem, 21, rfl⟩
abbrev cc6_stg1_0 : Ref sig .tc := ⟨.vmem, 22, rfl⟩
abbrev cc6_stg1_1 : Ref sig .tc := ⟨.vmem, 23, rfl⟩
abbrev cc6_stg2_0 : Ref sig .tc := ⟨.vmem, 24, rfl⟩
abbrev cc6_stg3_0 : Ref sig .tc := ⟨.vmem, 25, rfl⟩
abbrev cc6_stg4_0 : Ref sig .tc := ⟨.vmem, 26, rfl⟩
abbrev cc6_stg5_0 : Ref sig .tc := ⟨.vmem, 27, rfl⟩
abbrev cc6_stg5_1 : Ref sig .tc := ⟨.vmem, 28, rfl⟩
abbrev cc1_scratch0 : Ref sig .scVector := ⟨.vmem, 0, rfl⟩
abbrev cc1_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc3_scratch0 : Ref sig .scVector := ⟨.vmem, 4, rfl⟩
abbrev cc3_scratch1 : Ref sig .scVector := ⟨.vmem, 5, rfl⟩
abbrev cc0_sem0_0 : DmaSem sig := 0
abbrev cc0_sem1_0 : DmaSem sig := 1
abbrev cc4_sem0_0 : DmaSem sig := 11
abbrev cc4_sem0_1 : DmaSem sig := 12
abbrev cc4_sem1_0 : DmaSem sig := 13
abbrev cc4_sem1_1 : DmaSem sig := 14
abbrev cc4_sem2_0 : DmaSem sig := 15
abbrev cc4_sem3_0 : DmaSem sig := 16
abbrev cc4_sem4_0 : DmaSem sig := 17
abbrev cc4_sem5_0 : DmaSem sig := 18
abbrev cc4_sem5_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc5_sem2_0 : DmaSem sig := 24
abbrev cc5_sem3_0 : DmaSem sig := 25
abbrev cc5_sem4_0 : DmaSem sig := 26
abbrev cc5_sem5_0 : DmaSem sig := 27
abbrev cc5_sem5_1 : DmaSem sig := 28
abbrev cc6_sem0_0 : DmaSem sig := 29
abbrev cc6_sem0_1 : DmaSem sig := 30
abbrev cc6_sem1_0 : DmaSem sig := 31
abbrev cc6_sem1_1 : DmaSem sig := 32
abbrev cc6_sem2_0 : DmaSem sig := 33
abbrev cc6_sem3_0 : DmaSem sig := 34
abbrev cc6_sem4_0 : DmaSem sig := 35
abbrev cc6_sem5_0 : DmaSem sig := 36
abbrev cc6_sem5_1 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  let c0_i32_4_r0 : BitVec 32 := 0#32
  ![v1.toNat, 0, 0]
@[reducible] def k1_t1_loop : Scf.Loop 32 :=
  let c0_i32_0 : BitVec 32 := 0#32
  let c4_i32_1 : BitVec 32 := 4#32
  let v3 : BitVec 32 := Scalar.addi c0_i32_0 c4_i32_1
  let c1_i32 : BitVec 32 := 1#32
  ⟨c0_i32_0, v3, c1_i32⟩
def k1_off2 (k1_t1 : Fin k1_t1_loop.trips) : Fin 2 → Nat :=
  let c0_i32_0 : BitVec 32 := 0#32
  let c1_i32 : BitVec 32 := 1#32
  let arg8 : BitVec 32 := Scf.iv c0_i32_0 c1_i32 k1_t1
  let c0_i32_3 : BitVec 32 := 0#32
  ![arg8.toNat, 0]
def k1_off3 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_0 : BitVec 32 := 0#32
  let c1_i32 : BitVec 32 := 1#32
  let arg8 : BitVec 32 := Scf.iv c0_i32_0 c1_i32 k1_t1
  let v11 : BitVec 32 := Scalar.addi v2 arg8
  let c0_i32_10_r1 : BitVec 32 := 0#32
  let c0_i32_11_r1 : BitVec 32 := 0#32
  ![v11.toNat, 0, 0]
abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  let c0_i32_4_r0 : BitVec 32 := 0#32
  ![v1.toNat, 0, 0]
@[reducible] def k2_t1_loop : Scf.Loop 32 :=
  let c0_i32_0 : BitVec 32 := 0#32
  let c12_i32_1 : BitVec 32 := 12#32
  let v3 : BitVec 32 := Scalar.addi c0_i32_0 c12_i32_1
  let c1_i32 : BitVec 32 := 1#32
  ⟨c0_i32_0, v3, c1_i32⟩
def k2_off2 (k2_t1 : Fin k2_t1_loop.trips) : Fin 2 → Nat :=
  let c0_i32_0 : BitVec 32 := 0#32
  let c1_i32 : BitVec 32 := 1#32
  let arg8 : BitVec 32 := Scf.iv c0_i32_0 c1_i32 k2_t1
  let c0_i32_3 : BitVec 32 := 0#32
  ![arg8.toNat, 0]
def k2_off3 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c0_i32_0 : BitVec 32 := 0#32
  let c1_i32 : BitVec 32 := 1#32
  let arg8 : BitVec 32 := Scf.iv c0_i32_0 c1_i32 k2_t1
  let v11 : BitVec 32 := Scalar.addi v2 arg8
  let c0_i32_10_r1 : BitVec 32 := 0#32
  let c0_i32_11_r1 : BitVec 32 := 0#32
  ![v11.toNat, 0, 0]
abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  let c0_i32_4_r0 : BitVec 32 := 0#32
  ![v1.toNat, 0, 0]
@[reducible] def k3_t1_loop : Scf.Loop 32 :=
  let c0_i32_0 : BitVec 32 := 0#32
  let c34_i32_1 : BitVec 32 := 34#32
  let v3 : BitVec 32 := Scalar.addi c0_i32_0 c34_i32_1
  let c1_i32 : BitVec 32 := 1#32
  ⟨c0_i32_0, v3, c1_i32⟩
def k3_off2 (k3_t1 : Fin k3_t1_loop.trips) : Fin 2 → Nat :=
  let c0_i32_0 : BitVec 32 := 0#32
  let c1_i32 : BitVec 32 := 1#32
  let arg8 : BitVec 32 := Scf.iv c0_i32_0 c1_i32 k3_t1
  let c0_i32_3 : BitVec 32 := 0#32
  ![arg8.toNat, 0]
def k3_off3 (i : grid3.Coords) (k3_t1 : Fin k3_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c34_i32 : BitVec 32 := 34#32
  let v2 : BitVec 32 := Scalar.muli v1 c34_i32
  let c0_i32_0 : BitVec 32 := 0#32
  let c1_i32 : BitVec 32 := 1#32
  let arg8 : BitVec 32 := Scf.iv c0_i32_0 c1_i32 k3_t1
  let v11 : BitVec 32 := Scalar.addi v2 arg8
  let c0_i32_10_r1 : BitVec 32 := 0#32
  let c0_i32_11_r1 : BitVec 32 := 0#32
  ![v11.toNat, 0, 0]
abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage4_0 : Fin 2 → Memref sig .tc .vmem S32x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x4096 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S304x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4096x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![12], ![false]⟩

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

abbrev stage5_0 : Fin 2 → Memref sig .tc .vmem S32x128x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x4096 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S304x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4096x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![34], ![false]⟩

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

abbrev stage6_0 : Fin 2 → Memref sig .tc .vmem S32x128x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x4096 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S304x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x128 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4096x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S301x128 : Shape := ⟨2, ![301, 128]⟩
abbrev S256x1024 : Shape := ⟨2, ![256, 1024]⟩
abbrev S1024 : Shape := ⟨1, ![1024]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1024x200x256 : Shape := ⟨3, ![1024, 200, 256]⟩
abbrev S1024x200x1024 : Shape := ⟨3, ![1024, 200, 1024]⟩
abbrev S1x1x1024 : Shape := ⟨3, ![1, 1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S301x128, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .i32⟩
  | .hbm, ⟨9, _⟩ => ⟨S1024x200, .i32⟩
  | .hbm, ⟨10, _⟩ => ⟨S1024x200, .i1⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S1024x200, .i32⟩
  | .hbm, ⟨15, _⟩ => ⟨S1024x200x1, .i32⟩
  | .hbm, ⟨16, _⟩ => ⟨S1, .i32⟩
  | .hbm, ⟨17, _⟩ => ⟨S_, .i32⟩
  | .hbm, ⟨18, _⟩ => ⟨S1024x200x1, .i32⟩
  | .hbm, ⟨19, _⟩ => ⟨S1024x200x1, .i1⟩
  | .hbm, ⟨20, _⟩ => ⟨S1x1x1, .i32⟩
  | .hbm, ⟨21, _⟩ => ⟨S1024x200x1, .i32⟩
  | .hbm, ⟨22, _⟩ => ⟨S1024x200x1, .i1⟩
  | .hbm, ⟨23, _⟩ => ⟨S1024x200x1, .i1⟩
  | .hbm, ⟨24, _⟩ => ⟨S_, .i1⟩
  | .hbm, ⟨25, _⟩ => ⟨S1024x200, .i1⟩
  | .hbm, ⟨26, _⟩ => ⟨S1024x200x128, .f32⟩
  | .hbm, ⟨27, _⟩ => ⟨S1024x200x128, .i1⟩
  | .hbm, ⟨28, _⟩ => ⟨S_, .f32⟩
  | .hbm, ⟨29, _⟩ => ⟨S1024x200x128, .f32⟩
  | .hbm, ⟨30, _⟩ => ⟨S1024x200x128, .f32⟩
  | .hbm, ⟨31, _⟩ => ⟨S_, .i32⟩
  | .hbm, ⟨32, _⟩ => ⟨S1024x200, .i32⟩
  | .hbm, ⟨33, _⟩ => ⟨S1024x200, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1024x200, .i32⟩
  | .hbm, ⟨38, _⟩ => ⟨S1024x200, .i32⟩
  | .hbm, ⟨39, _⟩ => ⟨S_, .i32⟩
  | .hbm, ⟨40, _⟩ => ⟨S1024x200, .i32⟩
  | .hbm, ⟨41, _⟩ => ⟨S1024x200, .i32⟩
  | .hbm, ⟨42, _⟩ => ⟨S_, .i32⟩
  | .hbm, ⟨43, _⟩ => ⟨S1024x200, .i32⟩
  | .hbm, ⟨44, _⟩ => ⟨S1024x200, .i1⟩
  | .hbm, ⟨45, _⟩ => ⟨S_, .i32⟩
  | .hbm, ⟨46, _⟩ => ⟨S1024x200, .i32⟩
  | .hbm, ⟨47, _⟩ => ⟨S1024x200, .i32⟩
  | .hbm, ⟨48, _⟩ => ⟨S1024x200, .i32⟩
  | .hbm, ⟨49, _⟩ => ⟨S1024x200x1, .i32⟩
  | .hbm, ⟨50, _⟩ => ⟨S1, .i32⟩
  | .hbm, ⟨51, _⟩ => ⟨S_, .i32⟩
  | .hbm, ⟨52, _⟩ => ⟨S1024x200x1, .i32⟩
  | .hbm, ⟨53, _⟩ => ⟨S1024x200x1, .i1⟩
  | .hbm, ⟨54, _⟩ => ⟨S1x1x1, .i32⟩
  | .hbm, ⟨55, _⟩ => ⟨S1024x200x1, .i32⟩
  | .hbm, ⟨56, _⟩ => ⟨S1024x200x1, .i1⟩
  | .hbm, ⟨57, _⟩ => ⟨S1024x200x1, .i1⟩
  | .hbm, ⟨58, _⟩ => ⟨S_, .i1⟩
  | .hbm, ⟨59, _⟩ => ⟨S1024x200, .i1⟩
  | .hbm, ⟨60, _⟩ => ⟨S1024x200x128, .f32⟩
  | .hbm, ⟨61, _⟩ => ⟨S1024x200x128, .i1⟩
  | .hbm, ⟨62, _⟩ => ⟨S_, .f32⟩
  | .hbm, ⟨63, _⟩ => ⟨S1024x200x128, .f32⟩
  | .hbm, ⟨64, _⟩ => ⟨S1024x200x128, .f32⟩
  | .hbm, ⟨65, _⟩ => ⟨S1024x200x256, .f32⟩
  | .hbm, ⟨66, _⟩ => ⟨S1024x200x1024, .f32⟩
  | .hbm, ⟨67, _⟩ => ⟨S1x1x1024, .f32⟩
  | .hbm, ⟨68, _⟩ => ⟨S1024x200x1024, .f32⟩
  | .hbm, ⟨69, _⟩ => ⟨S1024x200x1024, .f32⟩
  | .hbm, ⟨70, _⟩ => ⟨S_, .f32⟩
  | .hbm, ⟨71, _⟩ => ⟨S1024x200, .f32⟩
  | .hbm, ⟨72, _⟩ => ⟨S1024x200x1, .f32⟩
  | .hbm, ⟨73, _⟩ => ⟨S_, .f32⟩
  | .hbm, ⟨74, _⟩ => ⟨S1024x200x1, .f32⟩
  | .hbm, ⟨75, _⟩ => ⟨S1024x200x1, .f32⟩
  | .hbm, ⟨76, _⟩ => ⟨S_, .i32⟩
  | .hbm, ⟨77, _⟩ => ⟨S_, .f32⟩
  | .hbm, ⟨78, _⟩ => ⟨S1024x200, .f32⟩
  | .hbm, ⟨79, _⟩ => ⟨S1024x200x1, .f32⟩
  | .hbm, ⟨80, _⟩ => ⟨S_, .f32⟩
  | .hbm, ⟨81, _⟩ => ⟨S1024x200x1, .f32⟩
  | .hbm, ⟨82, _⟩ => ⟨S1024x200x1, .f32⟩
  | .hbm, ⟨83, _⟩ => ⟨S1024x200x1024, .f32⟩
  | .hbm, ⟨84, _⟩ => ⟨S1024x200x1024, .f32⟩
  | .hbm, ⟨85, _⟩ => ⟨S1024x200x1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1024x200, .f32⟩
  | .hbm, ⟨91, _⟩ => ⟨S1024x200x1, .f32⟩
  | .hbm, ⟨92, _⟩ => ⟨S1024x200x1, .f32⟩
  | .hbm, ⟨93, _⟩ => ⟨S1024x200x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S1024x200x1, .f32⟩
  | .hbm, ⟨99, _⟩ => ⟨S1024x200x1, .f32⟩
  | .hbm, ⟨100, _⟩ => ⟨S1024x200x1024, .f32⟩
  | .hbm, ⟨101, _⟩ => ⟨S1024x200x1024, .f32⟩
  | .hbm, ⟨102, _⟩ => ⟨S_, .f32⟩
  | .hbm, ⟨103, _⟩ => ⟨S1024x200x1, .f32⟩
  | .hbm, ⟨104, _⟩ => ⟨S1024x200x1, .f32⟩
  | .hbm, ⟨105, _⟩ => ⟨S1024x200x1, .f32⟩
  | .hbm, ⟨106, _⟩ => ⟨S1024x200x1024, .f32⟩
  | .hbm, ⟨107, _⟩ => ⟨S1024x200x1024, .f32⟩
  | .hbm, ⟨108, _⟩ => ⟨S1x1x1024, .f32⟩
  | .hbm, ⟨109, _⟩ => ⟨S1024x200x1024, .f32⟩
  | .hbm, ⟨110, _⟩ => ⟨S1024x200x1024, .f32⟩
  | .hbm, ⟨111, _⟩ => ⟨S1x1x1024, .f32⟩
  | .hbm, ⟨112, _⟩ => ⟨S1024x200x1024, .f32⟩
  | .hbm, ⟨113, _⟩ => ⟨S1024x200x1024, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_c : Ref sig .tc := ⟨.hbm, 31, rfl⟩
abbrev main_v1 : Ref sig .tc := ⟨.hbm, 32, rfl⟩
abbrev main_v2 : Ref sig .tc := ⟨.hbm, 33, rfl⟩
abbrev main_c_0 : Ref sig .tc := ⟨.hbm, 34, rfl⟩
abbrev main_c_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v3 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_cst : Ref sig .tc := ⟨.hbm, 70, rfl⟩
abbrev main_v10 : Ref sig .tc := ⟨.hbm, 71, rfl⟩
abbrev main_v11 : Ref sig .tc := ⟨.hbm, 72, rfl⟩
abbrev main_cst_2 : Ref sig .tc := ⟨.hbm, 73, rfl⟩
abbrev main_v12 : Ref sig .tc := ⟨.hbm, 74, rfl⟩
abbrev main_v13 : Ref sig .tc := ⟨.hbm, 75, rfl⟩
abbrev main_c_3 : Ref sig .tc := ⟨.hbm, 76, rfl⟩
abbrev main_call3_cst : Ref sig .tc := ⟨.hbm, 77, rfl⟩
abbrev main_call3_v0 : Ref sig .tc := ⟨.hbm, 78, rfl⟩
abbrev main_call3_v1 : Ref sig .tc := ⟨.hbm, 79, rfl⟩
abbrev main_call3_cst_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_cst_1 : Ref sig .tc := ⟨.hbm, 87, rfl⟩
abbrev main_call3_v8 : Ref sig .tc := ⟨.hbm, 88, rfl⟩
abbrev main_call3_cst_2 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_cst_3 : Ref sig .tc := ⟨.hbm, 94, rfl⟩
abbrev main_call3_v13 : Ref sig .tc := ⟨.hbm, 95, rfl⟩
abbrev main_call3_cst_4 : Ref sig .tc := ⟨.hbm, 96, rfl⟩
abbrev main_call3_call0_v0 : Ref sig .tc := ⟨.hbm, 97, rfl⟩
abbrev main_call3_call0_v1 : Ref sig .tc := ⟨.hbm, 98, rfl⟩
abbrev main_v14 : Ref sig .tc := ⟨.hbm, 99, rfl⟩
abbrev main_v15 : Ref sig .tc := ⟨.hbm, 100, rfl⟩
abbrev main_v16 : Ref sig .tc := ⟨.hbm, 101, rfl⟩
abbrev main_cst_4 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩

abbrev nD : Nat := 1
abbrev τ : Topo := Topo.v7x

variable {F : FTy → Type} [FloatOps F]
-- ==== Proof.Setup.lean ====
/- The launch set-up: the label table, the SparseCore configuration and the ghost state that the proofs about the
   kernel's run share. The ghost state has three parts: the handshakes between the cores, the pipelines' staging
   cells, and the counters of the SparseCore's transfers. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.ValueLayout
public import Idealize.ShloMosaic.Lib.Tactic

@[expose] public section

noncomputable section

namespace Cert.Proof.Ker

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program with its TensorCore calls. -/
abbrev ΛP : Labels := Pipeline.Sig Λ₀ (Fin 4) fun p => (pcfgs (F := F) p).Adm
/-- The SparseCore calls. -/
abbrev K : SparseCore.Cfg τ sig (ΛP (F := F)) 3 := sc (F := F)
/-- The program's procedures. -/
abbrev D [FloatOps F] : Defs nD τ sig (Elt F) (ΛP (F := F)) := Pipeline.defs pcfgs defs₀
/-- No loop of the TensorCore calls needs a variant. -/
abbrev 𝒱₀ : Variants := Variants.none
/-- The variants, for the whole program. -/
abbrev 𝒱 : Variants := 𝒱₀.lift
/-- The variant at the start. -/
abbrev v₀ : 𝒱.V := Sum.inl none

/-- The facts of the SparseCore configuration, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds; -/
abbrev UH : Type := URounds (GSem nD τ sig) ℕ
/-- the staging cells' rounds; -/
abbrev UP : Type := URounds (GSem nD τ sig) Unit
/-- and the transfers' counters beside them. -/
abbrev UU : Type := UH × (UP × Counters)

local notation "𝕄" => MT nD τ sig (HIx 3) (Elt F) ℕ UU ℕ

/-- Where the handshakes' ghost state lives. -/
abbrev EH : Emb UH (MT nD τ sig (HIx 3) (Elt F) ℕ UU ℕ) := embL
/-- The staging cells' rounds inside the whole. -/
def EP : Emb UP (MT nD τ sig (HIx 3) (Elt F) ℕ UU ℕ) :=
  ((Emb.inl : Emb UP (UP × Counters)).trans (Emb.inr : Emb (UP × Counters) UU)).trans
    (uEmb (nD := nD) (sig := sig) (Ix := HIx 3) (Val := Elt F) (Name := ℕ) (U := UU) (Lvl := ℕ)).toEmb
/-- The TensorCore calls' ghost state lies in the upper part. -/
instance EP_landsIn : (EP : Emb UP 𝕄).LandsIn (upEmb : UEmb _ 𝕄) := by unfold EP; infer_instance

/-- The launch's ghost element gives the handshakes' part and the staging cells' part. -/
theorem ownU_split (a : UH) (b : UP) :
    (ownU ((a, (b, 1)) : UU) : sProp 𝕄) ⊢ iprop(BI.own (EH a) ∗ BI.own (EP b)) :=
  BI.own_op_elim ((uEmb (nD := nD) (sig := sig) (Ix := HIx 3) (Val := Elt F) (Name := ℕ) (U := UU) (Lvl := ℕ)).toEmb.op_of_mem
    (Prod.mk_mem_op (URA.mem_op_one a) (URA.mem_one_op ((b, 1) : UP × Counters))))

end Cert.Proof.Ker

end
-- ==== Proof.Tile.lean ====
/- One vector subcore's task, for any number `n` of chunks per subcore: fetch the subcore's row of the index list, then for
   each chunk gather the 128 table rows the list names and write them to the chunk's rows of the result. The three
   SparseCore calls of the kernel are this program at `n = 4, 12, 34`. -/
module

public import proofs.«01_k».proof.Proof.Setup

@[expose] public section

noncomputable section

namespace Cert.Proof.Ker

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 3) (Elt F) ℕ UU ℕ

/-! ## The program -/

/-- The index list: 32 rows of `n` chunks of 128 indices; -/
abbrev SIds (n : ℕ) : Shape := ⟨3, ![32, n, 128]⟩
/-- One tile's ids, as its copy takes them. -/
abbrev SIds1 (n : ℕ) : Shape := ⟨3, ![1, n, 128]⟩
/-- one subcore's row of it; -/
abbrev SList (n : ℕ) : Shape := ⟨2, ![n, 128]⟩
/-- the result: `m` chunks of 128 table rows. -/
abbrev SOut (m : ℕ) : Shape := ⟨3, ![m, 128, 128]⟩

/-- A subcore's row of the index list. -/
abbrev idsRow {n : ℕ} (A : Memref sig .scVector .hbm (SIds n) .i32) (o : Fin 3 → ℕ) (ho : ∀ a, o a + (SIds1 n).size a ≤ (SIds n).size a)
    (hsq : (SIds1 n).Squeezes (SList n)) : Memref sig .scVector .hbm (SList n) .i32 :=
  (A.slice (Rect.unit (s := SIds n) o (SIds1 n).size ho) (fun _ => rfl)).squeeze (SList n) hsq
/-- One chunk of the fetched list. -/
abbrev listRow {n : ℕ} (A : Memref sig .scVector .vmem (SList n) .i32) (o : Fin 2 → ℕ) (ho : ∀ a, o a + S1x128.size a ≤ (SList n).size a) :
    Memref sig .scVector .vmem S128 .i32 :=
  (A.slice (Rect.unit (s := SList n) o S1x128.size ho) (fun _ => rfl)).squeeze S128 squeezes_S1x128_S128
/-- The whole table. -/
abbrev tabAll (A : Memref sig .scVector .hbm S100000x128 .f32) : Memref sig .scVector .hbm S100000x128 .f32 :=
  A.slice (Rect.unit (s := S100000x128) ![0, 0] S100000x128.size inb_S100000x128_S100000x128_0_0) (fun _ => rfl)
/-- One chunk of the result. -/
abbrev outRow {m : ℕ} (A : Memref sig .scVector .hbm (SOut m) .f32) (o : Fin 3 → ℕ) (ho : ∀ a, o a + S1x128x128.size a ≤ (SOut m).size a) :
    Memref sig .scVector .hbm S128x128 .f32 :=
  (A.slice (Rect.unit (s := SOut m) o S1x128x128.size ho) (fun _ => rfl)).squeeze S128x128 squeezes_S1x128x128_S128x128

section Program

variable {n m : ℕ} (ci : Fin τ.nSC) (si : Fin τ.nSub)
variable (A2 : Memref sig .scVector .hbm (SIds n) .i32) (A3 : Memref sig .scVector .hbm S100000x128 .f32)
variable (A4 : Memref sig .scVector .hbm (SOut m) .f32)
variable (A5 : Memref sig .scVector .vmem (SList n) .i32) (h5 : A5.IsWhole)
variable (A6 : Memref sig .scVector .vmem S128x128 .f32) (h6 : A6.IsWhole) (sG s0 s1 : DmaSems sig S_)
variable (o1 : Fin 3 → ℕ) (ho1 : ∀ a, o1 a + (SIds1 n).size a ≤ (SIds n).size a) (hsq : (SIds1 n).Squeezes (SList n))
variable (l : Scf.Loop 32) (hl : l.OK) (o2 : Fin l.trips → Fin 2 → ℕ) (ho2 : ∀ t a, o2 t a + S1x128.size a ≤ (SList n).size a)
variable (o3 : Fin l.trips → Fin 3 → ℕ) (ho3 : ∀ t a, o3 t a + S1x128x128.size a ≤ (SOut m).size a)

/-- One chunk: gather, wait, write out, wait. -/
def tripProg : Fin l.trips → BitVec 32 → Prog (TpuEff nD τ sig (Elt F) Λ₀ (.scVector ci si)) (BitVec 32) :=
  fun t _ => do
    SparseCore.enqueueIndirectGather rfl (tabAll A3) A6 gathers_S100000x128_S128x128 (listRow A5 (o2 t) (ho2 t)) rfl sG.sem (View.wordExact_bits rfl) rfl (Or.inl rfl)
    SparseCore.waitIndirectGather sG.sem (tabAll A3) A6 (View.wordExact_bits rfl) h6.wordExact
    Prog.lift (.enqueueDma A6 (.here (outRow A4 (o3 t) (ho3 t))) (.dma s1.sem) h6.wordExact ((View.wordExact_bits rfl).reshape _ _) ⟨Or.inl rfl, trivial⟩)
    Prog.lift (.waitDma2 s1.sem A6 (outRow A4 (o3 t) (ho3 t)) h6.wordExact ((View.wordExact_bits rfl).reshape _ _))
    pure 0#32

/-- The task. -/
def bodyProg : Prog (TpuEff nD τ sig (Elt F) Λ₀ (.scVector ci si)) PUnit := do
  Prog.lift (.enqueueDma (idsRow A2 o1 ho1 hsq) (.here A5) (.dma s0.sem) ((View.wordExact_bits rfl).reshape _ _) h5.wordExact ⟨Or.inl rfl, trivial⟩)
  Prog.lift (.waitDma2 s0.sem (idsRow A2 o1 ho1 hsq) A5 ((View.wordExact_bits rfl).reshape _ _) h5.wordExact)
  let _v ← Scf.Loop.for l hl 0#32 (tripProg ci si A3 A4 A5 A6 h6 sG s1 l o2 ho2 o3 ho3)
  pure ⟨⟩

end Program

/-- Call 1's task is the task at 4 chunks per subcore; -/
theorem cc1_eq (i : grid1.Coords) (A2 h2 A3 h3 A4 h4 A5 h5 A6 h6 sG s0 s1) :
    cc1__sc_gather_body (F := F) i A2 h2 A3 h3 A4 h4 A5 h5 A6 h6 sG s0 s1
      = bodyProg (n := 4) (m := 128) ((i 0).castLE hcore1) ((i 1).castLE hsub1) A2 A3 A4 A5 h5 A6 h6 sG s0 s1 (k1_off1 i) (k1_off1_inb i) squeezes_S1x4x128_S4x128
          k1_t1_loop k1_t1_ok k1_off2 k1_off2_inb (k1_off3 i) (k1_off3_inb i) := rfl
/-- call 2's at 12; -/
theorem cc2_eq (i : grid2.Coords) (A2 h2 A3 h3 A4 h4 A5 h5 A6 h6 sG s0 s1) :
    cc2__sc_gather_body (F := F) i A2 h2 A3 h3 A4 h4 A5 h5 A6 h6 sG s0 s1
      = bodyProg (n := 12) (m := 384) ((i 0).castLE hcore2) ((i 1).castLE hsub2) A2 A3 A4 A5 h5 A6 h6 sG s0 s1 (k2_off1 i) (k2_off1_inb i) squeezes_S1x12x128_S12x128
          k2_t1_loop k2_t1_ok k2_off2 k2_off2_inb (k2_off3 i) (k2_off3_inb i) := rfl
/-- call 3's at 34. -/
theorem cc3_eq (i : grid3.Coords) (A2 h2 A3 h3 A4 h4 A5 h5 A6 h6 sG s0 s1) :
    cc3__sc_gather_body (F := F) i A2 h2 A3 h3 A4 h4 A5 h5 A6 h6 sG s0 s1
      = bodyProg (n := 34) (m := 1088) ((i 0).castLE hcore3) ((i 1).castLE hsub3) A2 A3 A4 A5 h5 A6 h6 sG s0 s1 (k3_off1 i) (k3_off1_inb i) squeezes_S1x34x128_S34x128
          k3_t1_loop k3_t1_ok k3_off2 k3_off2_inb (k3_off3 i) (k3_off3_inb i) := rfl

/-! ## What it computes -/

/-- The rows of the table `tab` that the list `ids` names: chunk `j 0` is chunk `j 0 % n` of row `j 0 / n` of the list,
    whose index `j 1` names the row; `j 2` is the column. -/
def gathered {n m : ℕ} (hn : m = 32 * n) (ids : (SIds n).Idx → BitVec 32) (tab : S100000x128.Idx → F .f32) : (SOut m).Idx → F .f32 :=
  fun j =>
    have h0 : (j 0).val < 32 * n := hn ▸ (j 0).isLt
    have hn0 : 0 < n := Nat.pos_of_ne_zero fun h => by subst h; omega
    tab (ix2 (⟨(ids (ix3 (⟨(j 0).val / n, Nat.div_lt_of_lt_mul (by rw [Nat.mul_comm]; exact h0)⟩ : Fin 32) (⟨(j 0).val % n, Nat.mod_lt _ hn0⟩ : Fin n) (j 1 : Fin 128))).toNat % 100000,
      Nat.mod_lt _ (by decide)⟩ : Fin 100000) (j 2 : Fin 128))

omit [FloatOps F] in
/-- What the gather of one chunk delivers is that chunk of `gathered`. -/
theorem payload_eq {n m : ℕ} (hn : m = 32 * n) (ids : (SIds n).Idx → BitVec 32) (tab : S100000x128.Idx → F .f32) (w : Fin 32) (t : Fin n)
    (lst : S128.Idx → BitVec 32) (hl : ∀ x : Fin 128, lst (ix1 x) = ids (ix3 w t x)) (hin : ∀ x, (lst x).toNat < S100000x128.size gathers_S100000x128_S128x128.axis)
    (x y : Fin 128) (b : Fin m) (hb : b.val = n * w.val + t.val) :
    SparseCore.gatherPayload (F := F) (e := .f32) gathers_S100000x128_S128x128 tab (SparseCore.rows (F := F) lst rfl hin) (ix2 x y)
      = gathered hn ids tab (ix3 b x y) := by
  have hn0 : 0 < n := Nat.pos_of_ne_zero fun h => by subst h; exact t.elim0
  have hd : b.val / n = w.val := by rw [hb, Nat.mul_add_div hn0, Nat.div_eq_of_lt t.isLt, Nat.add_zero]
  have hm : b.val % n = t.val := by rw [hb, Nat.mul_add_mod, Nat.mod_eq_of_lt t.isLt]
  have hs : ∀ k : Fin 128, S128.rowMajor.symm (k.cast rfl) = ix1 k := fun k =>
    (Equiv.symm_apply_eq _).2 (Fin.ext (by rw [Shape.rowMajor_val_one]; rfl))
  unfold SparseCore.gatherPayload gathered
  refine congrArg tab (funext fun a => ?_)
  have hlt := hin (ix1 x)
  match a with
  | ⟨0, _⟩ =>
    refine Fin.ext ?_
    have e1 : (lst (ix1 x)).toNat < 100000 := hlt
    have e2 : (ids (ix3 w t x)) = ids (ix3 (⟨b.val / n, by rw [hd]; exact w.isLt⟩ : Fin 32) (⟨b.val % n, Nat.mod_lt _ hn0⟩ : Fin n) x) :=
      congrArg ids (by rw [show (⟨b.val / n, by rw [hd]; exact w.isLt⟩ : Fin 32) = w from Fin.ext hd, show (⟨b.val % n, Nat.mod_lt _ hn0⟩ : Fin n) = t from Fin.ext hm])
    have e3 : (lst (S128.rowMajor.symm (x.cast rfl))).toNat
        = (ids (ix3 (⟨b.val / n, by rw [hd]; exact w.isLt⟩ : Fin 32) (⟨b.val % n, Nat.mod_lt _ hn0⟩ : Fin n) x)).toNat % 100000 := by
      rw [← e2, ← hl x, Nat.mod_eq_of_lt e1]; exact congrArg (fun z => (lst z).toNat) (hs x)
    exact e3
  | ⟨1, _⟩ => rfl

end Cert.Proof.Ker

end
-- ==== Proof.TileRun.lean ====
/- One vector subcore's task run: what it holds chunk by chunk, and that it ends with its chunks of the result at the
   gathered rows. -/
module

public import proofs.«01_k».proof.Proof.Tile

@[expose] public section

noncomputable section

namespace Cert.Proof.Ker

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 3) (Elt F) ℕ UU ℕ

/-! ## Reading the pieces -/

section Reads

variable {n m : ℕ}

omit [FloatOps F] in
/-- A read of the whole table. -/
theorem read_tabAll (A : Memref sig .scVector .hbm S100000x128 .f32) (f : A.view.ty.Contents (Elt F)) :
    (tabAll A).view.read (Elt F) f = A.view.read (Elt F) f := by
  funext x
  show A.view.read (Elt F) f ((Rect.unit (s := S100000x128) ![0, 0] S100000x128.size inb_S100000x128_S100000x128_0_0).emb x) = _
  refine congrArg _ (funext fun a => Fin.ext ?_)
  match a with
  | ⟨0, _⟩ => show 0 + 1 * (x 0).val = (x 0).val; omega
  | ⟨1, _⟩ => show 0 + 1 * (x 1).val = (x 1).val; omega

omit [FloatOps F] in
/-- A read of one tile's ids. -/
theorem read_idsRow (A : Memref sig .scVector .hbm (SIds n) .i32) (o : Fin 3 → ℕ) (ho hsq) (f : A.view.ty.Contents (Elt F)) (w : Fin 32)
    (hw : o = ![w.val, 0, 0]) (a : Fin n) (b : Fin 128) :
    (idsRow A o ho hsq).view.read (Elt F) f (ix2 a b) = A.view.read (Elt F) f (ix3 w a b) := by
  subst hw
  show A.view.read (Elt F) f ((Rect.unit (s := SIds n) ![w.val, 0, 0] (SIds1 n).size ho).emb (Shape.reshapeEquiv _ (ix2 a b))) = _
  rw [reshapeEquiv_ix2_1ab]
  refine congrArg _ (funext fun c => Fin.ext ?_)
  match c with
  | ⟨0, _⟩ => show w.val + 1 * 0 = w.val; omega
  | ⟨1, _⟩ => show 0 + 1 * a.val = a.val; omega
  | ⟨2, _⟩ => show 0 + 1 * b.val = b.val; omega

omit [FloatOps F] in
/-- A read of one row of the tile's list. -/
theorem read_listRow (A : Memref sig .scVector .vmem (SList n) .i32) (o : Fin 2 → ℕ) (ho) (f : A.view.ty.Contents (Elt F)) (t : Fin n)
    (ht : o = ![t.val, 0]) (x : Fin 128) :
    (listRow A o ho).view.read (Elt F) f (ix1 x) = A.view.read (Elt F) f (ix2 t x) := by
  subst ht
  show A.view.read (Elt F) f ((Rect.unit (s := SList n) ![t.val, 0] S1x128.size ho).emb (Shape.reshapeEquiv _ (ix1 x))) = _
  rw [Shape.reshapeEquiv_eq_of_rowMajor (y := ix2 (⟨0, Nat.one_pos⟩ : Fin 1) x) _ (by
    rw [Shape.rowMajor_val_two, Shape.rowMajor_val_one]; show 0 * 128 + x.val = x.val; omega)]
  refine congrArg _ (funext fun c => Fin.ext ?_)
  match c with
  | ⟨0, _⟩ => show t.val + 1 * 0 = t.val; omega
  | ⟨1, _⟩ => show 0 + 1 * x.val = x.val; omega

omit [FloatOps F] in
/-- A read of one chunk of the output. -/
theorem read_outRow (A : Memref sig .scVector .hbm (SOut m) .f32) (o : Fin 3 → ℕ) (ho) (f : A.view.ty.Contents (Elt F)) (b : Fin m)
    (hb : o = ![b.val, 0, 0]) (x y : Fin 128) :
    (outRow A o ho).view.read (Elt F) f (ix2 x y) = A.view.read (Elt F) f (ix3 b x y) := by
  subst hb
  show A.view.read (Elt F) f ((Rect.unit (s := SOut m) ![b.val, 0, 0] S1x128x128.size ho).emb (Shape.reshapeEquiv _ (ix2 x y))) = _
  rw [reshapeEquiv_ix2_1ab]
  refine congrArg _ (funext fun c => Fin.ext ?_)
  match c with
  | ⟨0, _⟩ => show b.val + 1 * 0 = b.val; omega
  | ⟨1, _⟩ => show 0 + 1 * x.val = x.val; omega
  | ⟨2, _⟩ => show 0 + 1 * y.val = y.val; omega

omit [FloatOps F] in
/-- Writing through a view what it reads of `g` leaves `g` on the view's elements. -/
theorem write_eq_on {κ : Kind} {sp : Space} {s : Shape} {e : EltTy} (v : View sig κ sp s e) (f g : v.ty.Contents (Elt F)) (p : s.Idx → Elt F e)
    (h : v.read (Elt F) g = p) : ∀ i ∈ v.set, v.write (Elt F) f p Finset.univ i = g i := by
  subst h
  intro i hi
  rw [View.write_read_eq_piecewise, Finset.piecewise_eq_of_mem _ _ _ (by rwa [View.setOn_univ])]

end Reads

/-! ## The run -/

section Run

variable {n m : ℕ} (d : Dev nD) (ci : Fin τ.nSC) (si : Fin τ.nSub)
variable (A2 : Memref sig .scVector .hbm (SIds n) .i32) (A3 : Memref sig .scVector .hbm S100000x128 .f32)
variable (A4 : Memref sig .scVector .hbm (SOut m) .f32)
variable (A5 : Memref sig .scVector .vmem (SList n) .i32) (h5 : A5.IsWhole)
variable (A6 : Memref sig .scVector .vmem S128x128 .f32) (h6 : A6.IsWhole) (sG s0 s1 : DmaSems sig S_)
variable (o1 : Fin 3 → ℕ) (ho1 : ∀ a, o1 a + (SIds1 n).size a ≤ (SIds n).size a) (hsq : (SIds1 n).Squeezes (SList n))
variable (l : Scf.Loop 32) (hl : l.OK) (o2 : Fin l.trips → Fin 2 → ℕ) (ho2 : ∀ t a, o2 t a + S1x128.size a ≤ (SList n).size a)
variable (o3 : Fin l.trips → Fin 3 → ℕ) (ho3 : ∀ t a, o3 t a + S1x128x128.size a ≤ (SOut m).size a)

/-- The chunks of the result this subcore writes: the first `t` hold `G`, the others `f`. -/
def outRows (l : Scf.Loop 32) (o3 : Fin l.trips → Fin 3 → ℕ) (ho3 : ∀ t a, o3 t a + S1x128x128.size a ≤ (SOut m).size a)
    (f G : Buf (Elt F) (A4.view.loc (V d ci si))) (t : ℕ) : sProp 𝕄 :=
  bigSep Finset.univ fun j : Fin l.trips =>
    (A4.view.loc (V d ci si) ↦[(outRow A4 (o3 j) (ho3 j)).view.set]{fullShare} (if j.val < t then G else f) : sProp 𝕄)

/-- What the subcore holds before chunk `t` of its loop. -/
def inv (q : PosShare TreeShare) (tab : Buf (Elt F) (A3.view.loc (V d ci si))) (f G : Buf (Elt F) (A4.view.loc (V d ci si))) (lst : Buf (Elt F) (A5.view.loc (V d ci si)))
    (O : CellTallies nD τ sig (HIx 3)) (W : Waits sig (HIx 3)) (t : ℕ) (_ : BitVec 32) : sProp 𝕄 :=
  iprop(Transfers.MayWaits (V d ci si) (default : HIx 3) O ∗ (A3.view.loc (V d ci si) ↦{q} tab) ∗ outRows d ci si A4 l o3 ho3 f G t
    ∗ (A5.view.loc (V d ci si) ↦{fullShare} lst) ∗ (∃ f6, A6.view.loc (V d ci si) ↦{fullShare} f6)
    ∗ semVal ((V d ci si), SemLoc.dma sG.sem) 0 ∗ semVal ((V d ci si), SemLoc.dma s1.sem) 0
    ∗ ∃ W', ⌜∀ p ∈ W', p ∈ W ∨ p.2 = none⌝ ∗ owes (V d ci si) O W')

/-- One trip of the loop: chunk `t` of the result comes to hold `G`. -/
theorem trip_wp (q : PosShare TreeShare) (tab : Buf (Elt F) (A3.view.loc (V d ci si))) (f G : Buf (Elt F) (A4.view.loc (V d ci si)))
    (hcred : ∑ j, (A6.slice (S128x128.rowRect gathers_S100000x128_S128x128.axis' j) (S128x128.stride_rowRect gathers_S100000x128_S128x128.axis' j)).view.dmaCredit = A6.view.dmaCredit)
    (lst : Buf (Elt F) (A5.view.loc (V d ci si))) (O : CellTallies nD τ sig (HIx 3)) (W : Waits sig (HIx 3))
    (hin : ∀ t x, ((listRow A5 (o2 t) (ho2 t)).view.read (Elt F) lst x).toNat < S100000x128.size gathers_S100000x128_S128x128.axis)
    (hG : ∀ t, (outRow A4 (o3 t) (ho3 t)).view.read (Elt F) G
      = SparseCore.gatherPayload (F := F) gathers_S100000x128_S128x128 ((tabAll A3).view.read (Elt F) tab)
          (SparseCore.rows ((listRow A5 (o2 t) (ho2 t)).view.read (Elt F) lst) rfl (hin t)))
    (t : Fin l.trips) (acc : BitVec 32) :
    inv d ci si A3 A4 A5 A6 sG s1 l o3 ho3 q tab f G lst O W t acc
      ⊢ wp frame (wpE (defs₀ (F := F)) 𝒱₀ (V d ci si) none) Set.univ (tripProg ci si A3 A4 A5 A6 h6 sG s1 l o2 ho2 o3 ho3 t acc)
          (inv d ci si A3 A4 A5 A6 sG s1 l o3 ho3 q tab f G lst O W (t.val + 1)) := by
  unfold inv tripProg
  iintro ⟨#Hmw, Ht, Ho, H5, ⟨%f6, H6⟩, HsG, Hs1, %W', %hW', HO⟩
  iapply (SparseCore.wp_gatherFromWhole (defs := defs₀ (F := F)) countersEmb 𝒱₀ (V d ci si) none (src := tabAll A3) (dst := A6) (hg := gathers_S100000x128_S128x128)
    (offs := listRow A5 (o2 t) (ho2 t)) (hn := rfl) (default : HIx 3) A6.view.dmaCredit hcred (by decide) (hin t)) $$ [Ht H6 H5 HsG]
  · isplitl [Ht]; · iexact Ht
    isplitl [H6]; · iexact H6
    isplitl [H5]; · iexact H5
    iexact HsG
  iintro Hfl
  iapply (Transfers.wp_waitLocalO countersEmb 𝒱₀ (V d ci si) none (default : HIx 3) (rfl : A6.view.dmaCredit = _)) $$ [Hfl HO]
  · isplitl [Hfl]; · iexact Hfl
    isplitl [HO]; · iexact HO
    iapply (Transfers.MayWaits.elim (SemLoc.dma sG.sem)) $$ Hmw
  iintro ⟨⟨H6, Ht, H5⟩, HsG, HO⟩
  unfold outRows
  ihave ⟨Hrow, Hrest⟩ := (Entails.of_eq (SparseCore.bigSep_erase' (Finset.mem_univ t))) $$ Ho
  rw [if_neg (Nat.lt_irrefl _)]
  iapply (Transfers.wp_dmaFromWhole (defs := defs₀ (F := F)) countersEmb 𝒱₀ (V d ci si) none (src := A6) (dst := outRow A4 (o3 t) (ho3 t)) (default : HIx 3)
    (outRow A4 (o3 t) (ho3 t)).view.dmaCredit rfl ((outRow A4 (o3 t) (ho3 t)).view.dmaCredit_pos (by decide)) (Finset.Subset.refl _)) $$ [H6 Hrow Hs1]
  · isplitl [H6]; · iexact H6
    isplitl [Hrow]; · iexact Hrow
    iexact Hs1
  iintro Hfl
  iapply (Transfers.wp_waitLocalO countersEmb 𝒱₀ (V d ci si) none (default : HIx 3) (rfl : (outRow A4 (o3 t) (ho3 t)).view.dmaCredit = _)) $$ [Hfl HO]
  · isplitl [Hfl]; · iexact Hfl
    isplitl [HO]; · iexact HO
    iapply (Transfers.MayWaits.elim (SemLoc.dma s1.sem)) $$ Hmw
  iintro ⟨⟨Hrow, H6⟩, Hs1, HO⟩
  simp only [Prog.lift, Pure.pure, Bind.bind, Prog.bind]
  sl_step
  isplitr; · iexact Hmw
  isplitl [Ht]; · iexact Ht
  isplitl [Hrow Hrest]
  · iapply (Entails.of_eq (SparseCore.bigSep_erase' (Finset.mem_univ t)).symm)
    isplitl [Hrow]
    · rw [if_pos (Nat.lt_succ_self _)]
      iapply (Entails.of_eq (pointsTo_congr (write_eq_on (outRow A4 (o3 t) (ho3 t)).view f G _ (by rw [hG t, ReadAs.apply_same, View.read_write_univ])))) $$ Hrow
    · iapply (Entails.of_eq (bigSep_congr fun j hj => by
        have hne : j.val ≠ t.val := fun e => (Finset.ne_of_mem_erase hj) (Fin.ext e)
        by_cases h : j.val < t.val
        · rw [if_pos h, if_pos (Nat.lt_succ_of_lt h)]
        · rw [if_neg h, if_neg (by omega)])) $$ Hrest
  isplitl [H5]; · iexact H5
  isplitl [H6]; · iexists _; iexact H6
  isplitl [HsG]; · iexact HsG
  isplitl [Hs1]; · iexact Hs1
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The whole task: the subcore's chunks of the result come to hold `G`; everything else it was lent comes back. -/
theorem body_wp (q : PosShare TreeShare) (tab : Buf (Elt F) (A3.view.loc (V d ci si))) (f G : Buf (Elt F) (A4.view.loc (V d ci si)))
    (hcred : ∑ j, (A6.slice (S128x128.rowRect gathers_S100000x128_S128x128.axis' j) (S128x128.stride_rowRect gathers_S100000x128_S128x128.axis' j)).view.dmaCredit = A6.view.dmaCredit)
    (lst : Buf (Elt F) (A5.view.loc (V d ci si))) (O : CellTallies nD τ sig (HIx 3)) (W : Waits sig (HIx 3))
    (hin : ∀ t x, ((listRow A5 (o2 t) (ho2 t)).view.read (Elt F) lst x).toNat < S100000x128.size gathers_S100000x128_S128x128.axis)
    (hG : ∀ t, (outRow A4 (o3 t) (ho3 t)).view.read (Elt F) G
      = SparseCore.gatherPayload (F := F) gathers_S100000x128_S128x128 ((tabAll A3).view.read (Elt F) tab)
          (SparseCore.rows ((listRow A5 (o2 t) (ho2 t)).view.read (Elt F) lst) rfl (hin t)))
    (ids : Buf (Elt F) (A2.view.loc (V d ci si))) (hpos : 0 < (SList n).numel)
    (hlst : ∀ f5, A5.view.write (Elt F) f5 ((idsRow A2 o1 ho1 hsq).view.read (Elt F) ids) Finset.univ = lst) :
    iprop(Transfers.MayWaits (V d ci si) (default : HIx 3) O
        ∗ (A2.view.loc (V d ci si) ↦[(idsRow A2 o1 ho1 hsq).view.set]{fullShare} ids) ∗ (A3.view.loc (V d ci si) ↦{q} tab)
        ∗ outRows d ci si A4 l o3 ho3 f G 0
        ∗ (∃ f5, A5.view.loc (V d ci si) ↦{fullShare} f5) ∗ (∃ f6, A6.view.loc (V d ci si) ↦{fullShare} f6)
        ∗ semVal ((V d ci si), SemLoc.dma sG.sem) 0 ∗ semVal ((V d ci si), SemLoc.dma s0.sem) 0 ∗ semVal ((V d ci si), SemLoc.dma s1.sem) 0
        ∗ owes (V d ci si) O W)
      ⊢ wp frame (wpE (defs₀ (F := F)) 𝒱₀ (V d ci si) none) Set.univ (bodyProg ci si A2 A3 A4 A5 h5 A6 h6 sG s0 s1 o1 ho1 hsq l hl o2 ho2 o3 ho3)
          fun _ => iprop((A2.view.loc (V d ci si) ↦[(idsRow A2 o1 ho1 hsq).view.set]{fullShare} ids) ∗ (A3.view.loc (V d ci si) ↦{q} tab)
            ∗ outRows d ci si A4 l o3 ho3 f G l.trips
            ∗ (∃ f5, A5.view.loc (V d ci si) ↦{fullShare} f5) ∗ (∃ f6, A6.view.loc (V d ci si) ↦{fullShare} f6)
            ∗ semVal ((V d ci si), SemLoc.dma sG.sem) 0 ∗ semVal ((V d ci si), SemLoc.dma s0.sem) 0 ∗ semVal ((V d ci si), SemLoc.dma s1.sem) 0
            ∗ ∃ W', ⌜∀ p ∈ W', p ∈ W ∨ p.2 = none⌝ ∗ owes (V d ci si) O W') := by
  unfold bodyProg
  iintro ⟨#Hmw, Hi, Ht, Ho, ⟨%f5, H5⟩, H6, HsG, Hs0, Hs1, HO⟩
  iapply (Transfers.wp_dmaLocal (defs := defs₀ (F := F)) countersEmb 𝒱₀ (V d ci si) none (src := idsRow A2 o1 ho1 hsq) (dst := A5) (default : HIx 3)
    A5.view.dmaCredit rfl (A5.view.dmaCredit_pos hpos) (Finset.subset_univ _)) $$ [Hi H5 Hs0]
  · isplitl [Hi]; · iexact Hi
    isplitl [H5]; · iexact H5
    iexact Hs0
  iintro Hfl
  iapply (Transfers.wp_waitLocalO countersEmb 𝒱₀ (V d ci si) none (default : HIx 3) (rfl : A5.view.dmaCredit = _)) $$ [Hfl HO]
  · isplitl [Hfl]; · iexact Hfl
    isplitl [HO]; · iexact HO
    iapply (Transfers.MayWaits.elim (SemLoc.dma s0.sem)) $$ Hmw
  iintro ⟨⟨H5, Hi⟩, Hs0, HO⟩
  rw [ReadAs.apply_same, hlst]
  iapply (Scf.wp_for_bind frame (wpE (defs₀ (F := F)) 𝒱₀ (V d ci si) none) Set.univ l.lb l.ub l.st hl 0#32 (tripProg ci si A3 A4 A5 A6 h6 sG s1 l o2 ho2 o3 ho3)
    (inv d ci si A3 A4 A5 A6 sG s1 l o3 ho3 q tab f G lst O W)
    (trip_wp d ci si A3 A4 A5 A6 h6 sG s1 l o2 ho2 o3 ho3 q tab f G hcred lst O W hin hG)) $$ [Ht Ho H5 H6 HsG Hs1 HO]
  · unfold inv
    isplitr; · iexact Hmw
    isplitl [Ht]; · iexact Ht
    isplitl [Ho]; · iexact Ho
    isplitl [H5]; · iexact H5
    isplitl [H6]; · iexact H6
    isplitl [HsG]; · iexact HsG
    isplitl [Hs1]; · iexact Hs1
    iexists _; isplitr
    swap; · iexact HO
    ipureintro; intro p hp
    rcases Finset.mem_insert.mp hp with hp | hp; · exact .inr (hp ▸ rfl)
    exact .inl hp
  iintro %acc HI
  unfold inv
  icases HI with ⟨-, Ht, Ho, H5, H6, HsG, Hs1, HO⟩
  sl_step
  isplitl [Hi]; · iexact Hi
  isplitl [Ht]; · iexact Ht
  isplitl [Ho]; · iexact Ho
  isplitl [H5]; · iexists _; iexact H5
  isplitl [H6]; · iexact H6
  isplitl [HsG]; · iexact HsG
  isplitl [Hs0]; · iexact Hs0
  isplitl [Hs1]; · iexact Hs1
  iexact HO

end Run

end Cert.Proof.Ker

end
-- ==== Proof.Task.lean ====
/- One subcore's task stated over the whole arrays: what each of the 32 subcores is lent (its row of the index list, a
   read share of the table, its chunks of the result), that the 32 loans together are the three arrays, and that the
   task turns the loan at the result's old contents into the loan at the gathered rows. -/
module

public import proofs.«01_k».proof.Proof.TileRun

@[expose] public section

noncomputable section

namespace Cert.Proof.Ker

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 3) (Elt F) ℕ UU ℕ

/-! ## Splitting an array -/

omit [FloatOps F] in
/-- An array held whole is its pieces by the values of a key. -/
theorem pointsTo_fibers {ℓ : Loc nD τ sig} {ι : Type} [Fintype ι] [DecidableEq ι] (k : Idx ℓ → ι) (q : PosShare TreeShare) (f : Buf (Elt F) ℓ) :
    (ℓ ↦{q} f : sProp 𝕄) = bigSep Finset.univ fun w : ι => ℓ ↦[Finset.univ.filter (k · = w)]{q} f := by
  rw [← pointsTo_biUnion Finset.univ (fun w : ι => Finset.univ.filter (k · = w))
    (fun a _ b _ hab => Finset.disjoint_filter.2 fun i _ h1 h2 => hab (h1 ▸ h2))]
  refine congrArg (fun S => (ℓ ↦[S]{q} f : sProp 𝕄)) (Finset.ext fun i => ?_)
  exact ⟨fun _ => Finset.mem_biUnion.2 ⟨k i, Finset.mem_univ _, Finset.mem_filter.2 ⟨Finset.mem_univ _, rfl⟩⟩, fun _ => Finset.mem_univ _⟩

/-- The read share of the table that subcore `(c, s)` is lent. -/
def xq (w : Fin 2 × Fin 16) : PosShare TreeShare := Transfers.dealOf fullShare Finset.univ (finProdFinEquiv w)

omit [FloatOps F] in
/-- An array held whole is the 32 read shares of it. -/
theorem pointsTo_shares {ℓ : Loc nD τ sig} (f : Buf (Elt F) ℓ) :
    (ℓ ↦{fullShare} f : sProp 𝕄) = bigSep Finset.univ fun w : Fin 2 × Fin 16 => ℓ ↦{xq w} f := by
  rw [Transfers.pointsTo_deal (Finset.univ : Finset (Fin (2 * 16))) ⟨0, Finset.mem_univ _⟩ fullShare,
    BI.bigSep_univ_equiv (finProdFinEquiv (m := 2) (n := 16))]
  rfl

section Loan

variable {n : ℕ} {ℓi ℓx ℓo : Loc nD τ sig} (ki : Idx ℓi → Fin 2 × Fin 16) (ko : Idx ℓo → (Fin 2 × Fin 16) × Fin n)

/-- What subcore `w` is lent. -/
abbrev tileG (ids : Buf (Elt F) ℓi) (tab : Buf (Elt F) ℓx) (f : Buf (Elt F) ℓo) (w : Fin 2 × Fin 16) : sProp 𝕄 :=
  iprop((ℓi ↦[Finset.univ.filter (ki · = w)]{fullShare} ids) ∗ (ℓx ↦{xq w} tab)
    ∗ bigSep Finset.univ fun t : Fin n => (ℓo ↦[Finset.univ.filter (ko · = (w, t))]{fullShare} f : sProp 𝕄))

omit [FloatOps F] in
/-- The 32 loans are the three arrays. -/
theorem tile_all (ids : Buf (Elt F) ℓi) (tab : Buf (Elt F) ℓx) (f : Buf (Elt F) ℓo) :
    (bigSep Finset.univ fun c : Fin 2 => bigSep Finset.univ fun s : Fin 16 => tileG ki ko ids tab f (c, s))
      = (iprop((ℓi ↦{fullShare} ids) ∗ (ℓx ↦{fullShare} tab) ∗ (ℓo ↦{fullShare} f)) : sProp 𝕄) := by
  rw [pointsTo_fibers ki, pointsTo_shares tab, pointsTo_fibers ko, BI.bigSep_univ_prod (α := Fin 2 × Fin 16), ← BI.bigSep_sep', ← BI.bigSep_sep',
    ← BI.bigSep_univ_prod (Φ := fun w => tileG ki ko ids tab f w)]

end Loan

/-! ## The keys -/

/-- The subcore that row `x 0` of the index list belongs to. -/
def keyI {n : ℕ} (x : (SIds n).Idx) : Fin 2 × Fin 16 :=
  (⟨(x 0).val % 2, Nat.mod_lt _ (by decide)⟩, ⟨(x 0).val / 2, Nat.div_lt_of_lt_mul (show (x 0).val < 2 * 16 from (x 0).isLt)⟩)

/-- The subcore that chunk `x 0` of the result belongs to, and the chunk's number among the subcore's. -/
def keyO {n m : ℕ} (hn : m = 32 * n) (x : (SOut m).Idx) : (Fin 2 × Fin 16) × Fin n :=
  have h0 : (x 0).val < 32 * n := hn ▸ (x 0).isLt
  have hn0 : 0 < n := Nat.pos_of_ne_zero fun h => by subst h; omega
  have h1 : (x 0).val / n < 2 * 16 := Nat.div_lt_of_lt_mul (by rw [Nat.mul_comm]; exact h0)
  ((⟨(x 0).val / n % 2, Nat.mod_lt _ (by decide)⟩, ⟨(x 0).val / n / 2, Nat.div_lt_of_lt_mul h1⟩), ⟨(x 0).val % n, Nat.mod_lt _ hn0⟩)

section Sets

variable {n m : ℕ} (c : Fin 2) (s : Fin 16)

omit [FloatOps F] in
/-- The row of the list a subcore fetches is the one its key names. -/
theorem idsRow_set (A : Memref sig .scVector .hbm (SIds n) .i32) (o : Fin 3 → ℕ) (ho hsq) (hA : A.view.set = Finset.univ)
    (k : A.view.ty.shape.Idx → Fin 2 × Fin 16) (hk : ∀ x, k (A.view.emb x) = keyI x) (hoe : o = ![2 * s.val + c.val, 0, 0]) :
    (idsRow A o ho hsq).view.set = Finset.univ.filter (k · = (c, s)) := by
  subst hoe
  show ((A.view.slice _).reshape _ _).set = _
  rw [View.set_reshape, View.set_slice]
  ext i
  have hi : i ∈ A.view.set := hA ▸ Finset.mem_univ i
  obtain ⟨x, -, rfl⟩ := Finset.mem_map.1 hi
  have h1 : (x 1).val < n := (x 1).isLt
  have h2 : (x 2).val < 128 := (x 2).isLt
  rw [Finset.mem_map' A.view.emb, Rect.mem_set_unit, Finset.mem_filter, hk]
  have hc := c.isLt
  constructor
  · intro h
    have h0 := h 0
    have h0' : 2 * s.val + c.val ≤ (x 0).val ∧ (x 0).val < 2 * s.val + c.val + 1 := h0
    refine ⟨Finset.mem_univ _, Prod.ext (Fin.ext ?_) (Fin.ext ?_)⟩
    · show (x 0).val % 2 = c.val; omega
    · show (x 0).val / 2 = s.val; omega
  · rintro ⟨-, h⟩
    have e1 : (x 0).val % 2 = c.val := congrArg (fun w => w.1.val) h
    have e2 : (x 0).val / 2 = s.val := congrArg (fun w => w.2.val) h
    intro a
    match a with
    | ⟨0, _⟩ => show 2 * s.val + c.val ≤ (x 0).val ∧ (x 0).val < 2 * s.val + c.val + 1; omega
    | ⟨1, _⟩ => show 0 ≤ (x 1).val ∧ (x 1).val < 0 + n; omega
    | ⟨2, _⟩ => show 0 ≤ (x 2).val ∧ (x 2).val < 0 + 128; omega

omit [FloatOps F] in
/-- The chunk of the result a subcore writes is the one its key names. -/
theorem outRow_set (hn : m = 32 * n) (A : Memref sig .scVector .hbm (SOut m) .f32) (o : Fin 3 → ℕ) (ho) (hA : A.view.set = Finset.univ)
    (k : A.view.ty.shape.Idx → (Fin 2 × Fin 16) × Fin n) (hk : ∀ x, k (A.view.emb x) = keyO hn x) (t : Fin n)
    (hoe : o = ![n * (2 * s.val + c.val) + t.val, 0, 0]) :
    (outRow A o ho).view.set = Finset.univ.filter (k · = ((c, s), t)) := by
  subst hoe
  show ((A.view.slice _).reshape _ _).set = _
  rw [View.set_reshape, View.set_slice]
  ext i
  have hi : i ∈ A.view.set := hA ▸ Finset.mem_univ i
  obtain ⟨x, -, rfl⟩ := Finset.mem_map.1 hi
  have h1 : (x 1).val < 128 := (x 1).isLt
  have h2 : (x 2).val < 128 := (x 2).isLt
  rw [Finset.mem_map' A.view.emb, Rect.mem_set_unit, Finset.mem_filter, hk]
  have hc := c.isLt
  have ht := t.isLt
  have hn0 : 0 < n := lt_of_le_of_lt (Nat.zero_le _) ht
  constructor
  · intro h
    have h0 := h 0
    have h0' : n * (2 * s.val + c.val) + t.val ≤ (x 0).val ∧ (x 0).val < n * (2 * s.val + c.val) + t.val + 1 := h0
    have h0e : (x 0).val = n * (2 * s.val + c.val) + t.val := by omega
    have hd : (x 0).val / n = 2 * s.val + c.val := by rw [h0e, Nat.mul_add_div hn0, Nat.div_eq_of_lt ht, Nat.add_zero]
    have hm : (x 0).val % n = t.val := by rw [h0e, Nat.mul_add_mod, Nat.mod_eq_of_lt ht]
    refine ⟨Finset.mem_univ _, Prod.ext (Prod.ext (Fin.ext ?_) (Fin.ext ?_)) (Fin.ext hm)⟩
    · show (x 0).val / n % 2 = c.val; omega
    · show (x 0).val / n / 2 = s.val; omega
  · rintro ⟨-, h⟩
    have e1 : (x 0).val / n % 2 = c.val := congrArg (fun w => w.1.1.val) h
    have e2 : (x 0).val / n / 2 = s.val := congrArg (fun w => w.1.2.val) h
    have e3 : (x 0).val % n = t.val := congrArg (fun w => w.2.val) h
    have hd : (x 0).val / n = 2 * s.val + c.val := by omega
    have h0e : (x 0).val = n * (2 * s.val + c.val) + t.val := by rw [← hd, ← e3, Nat.div_add_mod]
    intro a
    match a with
    | ⟨0, _⟩ => show n * (2 * s.val + c.val) + t.val ≤ (x 0).val ∧ (x 0).val < n * (2 * s.val + c.val) + t.val + 1; omega
    | ⟨1, _⟩ => show 0 ≤ (x 1).val ∧ (x 1).val < 0 + 128; omega
    | ⟨2, _⟩ => show 0 ≤ (x 2).val ∧ (x 2).val < 0 + 128; omega

end Sets

/-! ## The task over the loan -/

section Task

variable {n m : ℕ} (hn : m = 32 * n) (d : Dev nD) (c : Fin 2) (s : Fin 16) (ci : Fin τ.nSC) (si : Fin τ.nSub)
variable (A2 : Memref sig .scVector .hbm (SIds n) .i32) (A3 : Memref sig .scVector .hbm S100000x128 .f32)
variable (A4 : Memref sig .scVector .hbm (SOut m) .f32)
variable (A5 : Memref sig .scVector .vmem (SList n) .i32) (h5 : A5.IsWhole)
variable (A6 : Memref sig .scVector .vmem S128x128 .f32) (h6 : A6.IsWhole) (sG s0 s1 : DmaSems sig S_)
variable (o1 : Fin 3 → ℕ) (ho1 : ∀ a, o1 a + (SIds1 n).size a ≤ (SIds n).size a) (hsq : (SIds1 n).Squeezes (SList n))
variable (l : Scf.Loop 32) (hl : l.OK) (o2 : Fin l.trips → Fin 2 → ℕ) (ho2 : ∀ t a, o2 t a + S1x128.size a ≤ (SList n).size a)
variable (o3 : Fin l.trips → Fin 3 → ℕ) (ho3 : ∀ t a, o3 t a + S1x128x128.size a ≤ (SOut m).size a)

omit [FloatOps F] in
/-- The chunks of the loan, all at `f` or all at `G`, are the chunks the loop goes over. -/
theorem outRows_eq (hA : A4.view.set = Finset.univ) (ko : Idx (A4.view.loc (V d ci si)) → (Fin 2 × Fin 16) × Fin n)
    (hko : ∀ x, ko (A4.view.emb x) = keyO hn x) (htr : l.trips = n)
    (e3 : ∀ t, o3 t = ![n * (2 * s.val + c.val) + t.val, 0, 0]) (f G g : Buf (Elt F) (A4.view.loc (V d ci si))) (u : ℕ)
    (hg : ∀ t : Fin l.trips, (if t.val < u then G else f) = g) :
    outRows d ci si A4 l o3 ho3 f G u
      = bigSep Finset.univ fun t : Fin n => (A4.view.loc (V d ci si) ↦[Finset.univ.filter (ko · = ((c, s), t))]{fullShare} g : sProp 𝕄) := by
  unfold outRows
  rw [BI.bigSep_univ_equiv (finCongr htr.symm)]
  refine bigSep_congr fun t _ => ?_
  rw [hg, outRow_set c s hn A4 (o3 (finCongr htr.symm t)) (ho3 _) hA ko hko t (e3 _)]

/-- The task takes the loan at the result's old contents to the loan at the gathered rows. -/
theorem task_wp (h2 : A2.view.set = Finset.univ) (h4 : A4.view.set = Finset.univ) (h5' : A5.view.set = Finset.univ)
    (ki : Idx (A2.view.loc (V d ci si)) → Fin 2 × Fin 16) (hki : ∀ x, ki (A2.view.emb x) = keyI x)
    (ko : Idx (A4.view.loc (V d ci si)) → (Fin 2 × Fin 16) × Fin n) (hko : ∀ x, ko (A4.view.emb x) = keyO hn x)
    (htr : l.trips = n) (e1 : o1 = ![2 * s.val + c.val, 0, 0]) (e2 : ∀ t, o2 t = ![t.val, 0])
    (e3 : ∀ t, o3 t = ![n * (2 * s.val + c.val) + t.val, 0, 0])
    (hcred : ∑ j, (A6.slice (S128x128.rowRect gathers_S100000x128_S128x128.axis' j) (S128x128.stride_rowRect gathers_S100000x128_S128x128.axis' j)).view.dmaCredit = A6.view.dmaCredit)
    (ids : Buf (Elt F) (A2.view.loc (V d ci si))) (tab : Buf (Elt F) (A3.view.loc (V d ci si))) (f G : Buf (Elt F) (A4.view.loc (V d ci si)))
    (hok : ∀ x, (A2.view.read (Elt F) ids x).toNat < 100000)
    (hGr : A4.view.read (Elt F) G = gathered hn (A2.view.read (Elt F) ids) (A3.view.read (Elt F) tab))
    (hpos : 0 < (SList n).numel) (O : CellTallies nD τ sig (HIx 3)) (W : Waits sig (HIx 3)) :
    iprop(Transfers.MayWaits (V d ci si) (default : HIx 3) O ∗ tileG ki ko ids tab f (c, s)
        ∗ (∃ f5, A5.view.loc (V d ci si) ↦{fullShare} f5) ∗ (∃ f6, A6.view.loc (V d ci si) ↦{fullShare} f6)
        ∗ semVal ((V d ci si), SemLoc.dma sG.sem) 0 ∗ semVal ((V d ci si), SemLoc.dma s0.sem) 0 ∗ semVal ((V d ci si), SemLoc.dma s1.sem) 0
        ∗ owes (V d ci si) O W)
      ⊢ wp frame (wpE (defs₀ (F := F)) 𝒱₀ (V d ci si) none) Set.univ (bodyProg ci si A2 A3 A4 A5 h5 A6 h6 sG s0 s1 o1 ho1 hsq l hl o2 ho2 o3 ho3)
          fun _ => iprop(tileG ki ko ids tab G (c, s)
            ∗ (∃ f5, A5.view.loc (V d ci si) ↦{fullShare} f5) ∗ (∃ f6, A6.view.loc (V d ci si) ↦{fullShare} f6)
            ∗ semVal ((V d ci si), SemLoc.dma sG.sem) 0 ∗ semVal ((V d ci si), SemLoc.dma s0.sem) 0 ∗ semVal ((V d ci si), SemLoc.dma s1.sem) 0
            ∗ ∃ W', ⌜∀ p ∈ W', p ∈ W ∨ p.2 = none⌝ ∗ owes (V d ci si) O W') := by
  have hw : 2 * s.val + c.val < 32 := by have := s.isLt; have := c.isLt; omega
  have hset2 := idsRow_set c s A2 o1 ho1 hsq h2 ki hki e1
  have hO0 := outRows_eq hn d c s ci si A4 l o3 ho3 h4 ko hko htr e3 f G f 0 (fun t => if_neg (Nat.not_lt_zero _))
  have hO1 := outRows_eq hn d c s ci si A4 l o3 ho3 h4 ko hko htr e3 f G G l.trips (fun t => if_pos t.isLt)
  iintro ⟨Hmw, ⟨Hi, Ht, Ho⟩, ⟨%f5, H5⟩, H6, HsG, Hs0, Hs1, HO⟩
  have hlst : ∀ f5', A5.view.write (Elt F) f5' ((idsRow A2 o1 ho1 hsq).view.read (Elt F) ids) Finset.univ
      = A5.view.write (Elt F) f5 ((idsRow A2 o1 ho1 hsq).view.read (Elt F) ids) Finset.univ := fun f5' =>
    funext fun i => write_eq_on A5.view f5' _ _ (View.read_write_univ _ _) i (h5' ▸ Finset.mem_univ i)
  have hrow : ∀ (t : Fin l.trips) (x : Fin 128), (listRow A5 (o2 t) (ho2 t)).view.read (Elt F)
      (A5.view.write (Elt F) f5 ((idsRow A2 o1 ho1 hsq).view.read (Elt F) ids) Finset.univ) (ix1 x)
        = A2.view.read (Elt F) ids (ix3 (⟨_, hw⟩ : Fin 32) (t.cast htr) x) := fun t x => by
    rw [read_listRow A5 (o2 t) (ho2 t) _ (t.cast htr) (e2 t) x, View.read_write_univ]
    exact read_idsRow A2 o1 ho1 hsq ids (⟨_, hw⟩ : Fin 32) e1 _ _
  have hx1 : ∀ x : S128.Idx, x = ix1 (x 0) := fun x => funext fun a => by match a with | ⟨0, _⟩ => rfl
  have hin : ∀ t x, ((listRow A5 (o2 t) (ho2 t)).view.read (Elt F)
      (A5.view.write (Elt F) f5 ((idsRow A2 o1 ho1 hsq).view.read (Elt F) ids) Finset.univ) x).toNat < S100000x128.size gathers_S100000x128_S128x128.axis := fun t x => by
    rw [hx1 x]; exact (congrArg BitVec.toNat (hrow t (x 0))).trans_lt (hok _)
  have hG : ∀ t, (outRow A4 (o3 t) (ho3 t)).view.read (Elt F) G
      = SparseCore.gatherPayload (F := F) gathers_S100000x128_S128x128 ((tabAll A3).view.read (Elt F) tab)
          (SparseCore.rows ((listRow A5 (o2 t) (ho2 t)).view.read (Elt F)
            (A5.view.write (Elt F) f5 ((idsRow A2 o1 ho1 hsq).view.read (Elt F) ids) Finset.univ)) rfl (hin t)) := fun t => by
    have hb : n * (2 * s.val + c.val) + t.val < m := by
      have ht : t.val < n := htr ▸ t.isLt
      have : n * (2 * s.val + c.val) + n ≤ n * 32 := by
        rw [← Nat.mul_succ]; exact Nat.mul_le_mul_left n hw
      omega
    funext y
    have hy : y = ix2 (y 0 : Fin 128) (y 1 : Fin 128) := funext fun a => by match a with | ⟨0, _⟩ => rfl | ⟨1, _⟩ => rfl
    rw [hy, read_tabAll]
    refine (read_outRow A4 (o3 t) (ho3 t) G (⟨_, hb⟩ : Fin m) (e3 t) _ _).trans ?_
    rw [hGr]
    exact (payload_eq hn _ _ (⟨_, hw⟩ : Fin 32) (t.cast htr) _ (hrow t) (hin t) _ _ (⟨_, hb⟩ : Fin m) rfl).symm
  have hrun := body_wp d ci si A2 A3 A4 A5 h5 A6 h6 sG s0 s1 o1 ho1 hsq l hl o2 ho2 o3 ho3 (xq (c, s)) tab f G hcred _ O W hin hG ids hpos hlst
  rw [hset2, hO0, hO1] at hrun
  iapply (hrun.trans (wp_mono frame _ _ fun _ => by
    iintro ⟨Hi, Ht, Ho, H⟩
    isplitl [Hi Ht Ho]
    · isplitl [Hi]; · iexact Hi
      isplitl [Ht]; · iexact Ht
      iexact Ho
    iexact H))
  isplitl [Hmw]; · iexact Hmw
  isplitl [Hi]; · iexact Hi
  isplitl [Ht]; · iexact Ht
  isplitl [Ho]; · iexact Ho
  isplitl [H5]; · iexists _; iexact H5
  isplitl [H6]; · iexact H6
  isplitl [HsG]; · iexact HsG
  isplitl [Hs0]; · iexact Hs0
  isplitl [Hs1]; · iexact Hs1
  iexact HO

end Task

end Cert.Proof.Ker

end
-- ==== Proof.Pay.lean ====
/- The three SparseCore calls as the launch theorem sees them: what each call takes and brings back (the payload of its
   handshakes), that a call's operands are its subcores' loans, and that each subcore's task meets its obligation. The
   memory at the start of each call is a parameter. -/
module

public import proofs.«01_k».proof.Proof.Task

@[expose] public section

noncomputable section

namespace Cert.Proof.Ker

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 3) (Elt F) ℕ UU ℕ

/-! ## A task's own buffers and semaphores -/

section Scoped

variable (d : Dev nD) (ci : Fin τ.nSC) (si : Fin τ.nSub)

/-- A run from two scratch buffers, three semaphores at zero and a loan `A` is a run from everything the subcore owns. -/
theorem scoped_run (r0 r1 : Ref sig .scVector) (hr : r1 ≠ r0)
    (hw0 : ((Proc.scVector ci si : Proc τ).devRef r0 : DevRef τ sig).owner = .proc (.scVector ci si))
    (hw1 : ((Proc.scVector ci si : Proc τ).devRef r1 : DevRef τ sig).owner = .proc (.scVector ci si))
    (gG g0 g1 : SemLoc sig) (hsG : gG.isScoped .scVector = true) (hs0 : g0.isScoped .scVector = true) (hs1 : g1.isScoped .scVector = true)
    (h0G : g0 ≠ gG) (h1G : g1 ≠ gG) (h10 : g1 ≠ g0)
    (p : Prog (TpuEff nD τ sig (Elt F) Λ₀ (.scVector ci si)) PUnit) (A B : sProp 𝕄) (O : CellTallies nD τ sig (HIx 3)) (W : Waits sig (HIx 3))
    (hO : ∀ g, O g none = 0)
    (h : iprop(Transfers.MayWaits (V d ci si) (default : HIx 3) O ∗ A
        ∗ (∃ f, (V d ci si).loc r0 ↦{fullShare} f) ∗ (∃ f, (V d ci si).loc r1 ↦{fullShare} f)
        ∗ semVal ((V d ci si), gG) 0 ∗ semVal ((V d ci si), g0) 0 ∗ semVal ((V d ci si), g1) 0 ∗ owes (V d ci si) O W)
      ⊢ wp frame (wpE (defs₀ (F := F)) 𝒱₀ (V d ci si) none) Set.univ p fun _ => iprop(B
        ∗ (∃ f, (V d ci si).loc r0 ↦{fullShare} f) ∗ (∃ f, (V d ci si).loc r1 ↦{fullShare} f)
        ∗ semVal ((V d ci si), gG) 0 ∗ semVal ((V d ci si), g0) 0 ∗ semVal ((V d ci si), g1) 0
        ∗ ∃ W', ⌜∀ p ∈ W', p ∈ W ∨ p.2 = none⌝ ∗ owes (V d ci si) O W')) :
    iprop(levAts (K (F := F)).L (K (F := F)).lev ∗ emp ∗ A ∗ scopedBufs (V d ci si) ∗ scopedSems0 (V d ci si) ∗ owes (V d ci si) O W)
      ⊢ wp frame (wpE (defs₀ (F := F)) 𝒱₀ (V d ci si) none) Set.univ p fun _ => iprop(B ∗ scopedBufs (V d ci si) ∗ scopedSems0 (V d ci si)
        ∗ ∃ W', ⌜∀ p ∈ W', p ∈ W ∨ p.2 = none ⌝ ∗ owes (V d ci si) O W') := by
  have m0 : (Proc.scVector ci si : Proc τ).devRef r0 ∈ ownRefs (τ := τ) (sig := sig) (.scVector ci si) := SparseCore.Cfg.mem_ownRefs_of_owner hw0
  have m1 : (Proc.scVector ci si : Proc τ).devRef r1 ∈ (ownRefs (τ := τ) (sig := sig) (.scVector ci si)).erase ((Proc.scVector ci si).devRef r0) :=
    Finset.mem_erase.mpr ⟨fun e => hr (Proc.devRef_injective _ e), SparseCore.Cfg.mem_ownRefs_of_owner hw1⟩
  have hb : (ownBufs (V d ci si) : sProp 𝕄) = iprop((∃ f, (V d ci si).loc r0 ↦{fullShare} f) ∗ (∃ f, (V d ci si).loc r1 ↦{fullShare} f)
      ∗ bigSep (((ownRefs (τ := τ) (sig := sig) (.scVector ci si)).erase ((Proc.scVector ci si).devRef r0)).erase ((Proc.scVector ci si).devRef r1))
          fun b => iprop(∃ f, ((d, b) : Loc nD τ sig) ↦{fullShare} f)) := by
    unfold SparseCore.Cfg.ownBufs
    refine (SparseCore.bigSep_erase' m0).trans ?_
    rw [SparseCore.bigSep_erase' m1]
  have ng : ∀ {a b : SemLoc sig}, a ≠ b → ((V d ci si), a) ≠ (((V d ci si), b) : GSem nD τ sig) := fun hab e => hab (congrArg Prod.snd e)
  have hs : (ownSems0 (V d ci si) : sProp 𝕄) = iprop(semVal ((V d ci si), gG) 0 ∗ semVal ((V d ci si), g0) 0 ∗ semVal ((V d ci si), g1) 0
      ∗ bigSep ((((ownCells (V d ci si)).erase ((V d ci si), gG)).erase ((V d ci si), g0)).erase ((V d ci si), g1)) fun g => semVal g 0) := by
    unfold SparseCore.Cfg.ownSems0
    rw [SparseCore.bigSep_erase' ((mem_ownCells (g := (((V d ci si), gG) : GSem nD τ sig))).mpr ⟨rfl, hsG⟩),
      SparseCore.bigSep_erase' (Finset.mem_erase.mpr ⟨ng h0G, (mem_ownCells (g := (((V d ci si), g0) : GSem nD τ sig))).mpr ⟨rfl, hs0⟩⟩),
      SparseCore.bigSep_erase' (Finset.mem_erase.mpr ⟨ng h10, Finset.mem_erase.mpr ⟨ng h1G,
        (mem_ownCells (g := (((V d ci si), g1) : GSem nD τ sig))).mpr ⟨rfl, hs1⟩⟩⟩)]
  rw [(K (F := F)).scopedBufs_V facts d ci si, SparseCore.Cfg.scopedSems0_V (Val := Elt F) d ci si, hb, hs]
  iintro ⟨#Hlv, -, HA, ⟨H0, H1, Hbufs⟩, ⟨HsG, Hs0, Hs1, Hsems⟩, HO⟩
  ihave Hmw := (show levAts (K (F := F)).L (K (F := F)).lev ⊢ Transfers.MayWaits (V d ci si) (default : HIx 3) O from
    (K (F := F)).mayWaits_none (thr := V d ci si) hO) $$ Hlv
  iapply (wp_wand frame (wpE (defs₀ (F := F)) 𝒱₀ (V d ci si) none) Set.univ) $$ [Hmw HA H0 H1 HsG Hs0 Hs1 HO]
  · iapply h
    isplitl [Hmw]; · iexact Hmw
    isplitl [HA]; · iexact HA
    isplitl [H0]; · iexact H0
    isplitl [H1]; · iexact H1
    isplitl [HsG]; · iexact HsG
    isplitl [Hs0]; · iexact Hs0
    isplitl [Hs1]; · iexact Hs1
    iexact HO
  iintro %_ ⟨HB, H0, H1, HsG, Hs0, Hs1, HO⟩
  isplitl [HB]; · iexact HB
  isplitl [H0 H1 Hbufs]
  · isplitl [H0]; · iexact H0
    isplitl [H1]; · iexact H1
    iexact Hbufs
  isplitl [HsG Hs0 Hs1 Hsems]
  · isplitl [HsG]; · iexact HsG
    isplitl [Hs0]; · iexact Hs0
    isplitl [Hs1]; · iexact Hs1
    iexact Hsems
  iexact HO

end Scoped

/-! ## What the handshakes carry -/

section Payload

variable (Vq : Fin 3 → Dev nD → Valuation τ sig (Elt F))

/-- A device's TensorCore. -/
abbrev tcT (d : Dev nD) : Thread nD τ := SparseCore.T d

/-- What a buffer holds when the first gather starts. -/
abbrev at1 (d : Dev nD) (b : Ref sig .tc) : Buf (Elt F) ((tcT d).loc b) := Vq 0 d (Proc.devRef .tc b)
/-- What a buffer holds when the second gather starts. -/
abbrev at2 (d : Dev nD) (b : Ref sig .tc) : Buf (Elt F) ((tcT d).loc b) := Vq 1 d (Proc.devRef .tc b)
/-- What a buffer holds when the third gather starts. -/
abbrev at3 (d : Dev nD) (b : Ref sig .tc) : Buf (Elt F) ((tcT d).loc b) := Vq 2 d (Proc.devRef .tc b)

/-- What call 1 leaves in its result: the gathered rows; -/
abbrev got1 (d : Dev nD) : Buf (Elt F) ((tcT d).loc main_v8) := gathered (n := 4) (m := 128) rfl (at1 Vq d main_v7) (at1 Vq d main_arg2)
/-- call 2; -/
abbrev got2 (d : Dev nD) : Buf (Elt F) ((tcT d).loc main_v11) := gathered (n := 12) (m := 384) rfl (at2 Vq d main_v10) (at2 Vq d main_arg2)
/-- call 3. -/
abbrev got3 (d : Dev nD) : Buf (Elt F) ((tcT d).loc main_v14) := gathered (n := 34) (m := 1088) rfl (at3 Vq d main_v13) (at3 Vq d main_arg2)

/-- Call 1's loan to subcore `w`, the result's rows at `f`; -/
abbrev lent1 (d : Dev nD) (f : Buf (Elt F) ((tcT d).loc main_v8)) (w : Fin 2 × Fin 16) : sProp 𝕄 :=
  tileG (n := 4) (ℓi := (tcT d).loc main_v7) (ℓx := (tcT d).loc main_arg2) (ℓo := (tcT d).loc main_v8) (keyI (n := 4)) (keyO (n := 4) (m := 128) rfl)
    (at1 Vq d main_v7) (at1 Vq d main_arg2) f w
/-- call 2's; -/
abbrev lent2 (d : Dev nD) (f : Buf (Elt F) ((tcT d).loc main_v11)) (w : Fin 2 × Fin 16) : sProp 𝕄 :=
  tileG (n := 12) (ℓi := (tcT d).loc main_v10) (ℓx := (tcT d).loc main_arg2) (ℓo := (tcT d).loc main_v11) (keyI (n := 12)) (keyO (n := 12) (m := 384) rfl)
    (at2 Vq d main_v10) (at2 Vq d main_arg2) f w
/-- call 3's. -/
abbrev lent3 (d : Dev nD) (f : Buf (Elt F) ((tcT d).loc main_v14)) (w : Fin 2 × Fin 16) : sProp 𝕄 :=
  tileG (n := 34) (ℓi := (tcT d).loc main_v13) (ℓx := (tcT d).loc main_arg2) (ℓo := (tcT d).loc main_v14) (keyI (n := 34)) (keyO (n := 34) (m := 1088) rfl)
    (at3 Vq d main_v13) (at3 Vq d main_arg2) f w

/-- A task's number in its call. -/
abbrev wix (q : Fin 3) (c : Fin ((K (F := F)).nCore q)) (i : Fin ((K (F := F)).nSub q)) : Fin 2 × Fin 16 :=
  match q with
  | 0 => (Fin.cast rfl c, Fin.cast rfl i)
  | 1 => (Fin.cast rfl c, Fin.cast rfl i)
  | 2 => (Fin.cast rfl c, Fin.cast rfl i)

/-- What a task is lent, -/
def lent (q : Fin 3) (d : Dev nD) (w : Fin 2 × Fin 16) : sProp 𝕄 :=
  match q with
  | 0 => lent1 Vq d (at1 Vq d main_v8) w
  | 1 => lent2 Vq d (at2 Vq d main_v11) w
  | 2 => lent3 Vq d (at3 Vq d main_v14) w
/-- and what it brings back. -/
def back (q : Fin 3) (d : Dev nD) (w : Fin 2 × Fin 16) : sProp 𝕄 :=
  match q with
  | 0 => lent1 Vq d (got1 Vq d) w
  | 1 => lent2 Vq d (got2 Vq d) w
  | 2 => lent3 Vq d (got3 Vq d) w

/-- What a tile is lent can be kept in the handshakes' cells. -/
instance lent_storable (q : Fin 3) (d : Dev nD) (w : Fin 2 × Fin 16) : BI.Storable (upEmb : UEmb _ 𝕄) (lent Vq q d w) := by
  unfold lent; match q with
  | 0 => infer_instance
  | 1 => infer_instance
  | 2 => infer_instance
/-- What a tile gives back can be kept in the handshakes' cells. -/
instance back_storable (q : Fin 3) (d : Dev nD) (w : Fin 2 × Fin 16) : BI.Storable (upEmb : UEmb _ 𝕄) (back Vq q d w) := by
  unfold back; match q with
  | 0 => infer_instance
  | 1 => infer_instance
  | 2 => infer_instance

/-- Each call's handshakes carry its tasks' loans, out and back. -/
def P : (K (F := F)).Pay (nD := nD) (Val := Elt F) (Name := ℕ) (U := UU) where
  st := fun q d c => bigSep Finset.univ fun i => lent Vq q d (wix (F := F) q c i)
  dn := fun q d c => bigSep Finset.univ fun i => back Vq q d (wix (F := F) q c i)
  go := fun q d c i => lent Vq q d (wix (F := F) q c i)
  td := fun q d c i => back Vq q d (wix (F := F) q c i)
  x := fun _ _ => iprop(emp)

/-- So can all that the handshakes carry. -/
instance P_storable : (P Vq).IsStorable where
  st q d c := (inferInstance : BI.Storable (upEmb : UEmb _ 𝕄) (bigSep Finset.univ fun i => lent Vq q d (wix (F := F) q c i)))
  dn q d c := (inferInstance : BI.Storable (upEmb : UEmb _ 𝕄) (bigSep Finset.univ fun i => back Vq q d (wix (F := F) q c i)))
  go q d c i := (inferInstance : BI.Storable (upEmb : UEmb _ 𝕄) (lent Vq q d (wix (F := F) q c i)))
  td q d c i := (inferInstance : BI.Storable (upEmb : UEmb _ 𝕄) (back Vq q d (wix (F := F) q c i)))

/-- A SparseCore's operands are its tasks' loans. -/
theorem vecSplit (q : Fin 3) : (K (F := F)).VecSplit' (P Vq) q := by
  intro d c
  show (bigSep Finset.univ fun i => lent Vq q d (wix (F := F) q c i)) ⊢ iprop(|={Set.univ}=> ((bigSep Finset.univ fun i => lent Vq q d (wix (F := F) q c i))
    ∗ ((bigSep Finset.univ fun i => back Vq q d (wix (F := F) q c i)) -∗ bigSep Finset.univ fun i => back Vq q d (wix (F := F) q c i))))
  iintro H
  imodintro
  isplitl [H]; · iexact H
  iintro H
  iexact H

/-- What the run asks of the index lists: every index names a row. -/
def InTable : Prop := ∀ d, (∀ x : (SIds 4).Idx, (at1 Vq d main_v7 x : BitVec 32).toNat < 100000)
  ∧ (∀ x : (SIds 12).Idx, (at2 Vq d main_v10 x : BitVec 32).toNat < 100000)
  ∧ ∀ x : (SIds 34).Idx, (at3 Vq d main_v13 x : BitVec 32).toNat < 100000

/-! ## The tasks' obligations -/

omit [FloatOps F] in
/-- The waits that a tile's end records, weakened to what its obligation asks. -/
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A task's place on its call's grid. -/
def coordsV (c : Fin (grid1.bound 0)) (s : Fin (grid1.bound 1)) : grid1.Coords :=
  fun | 0 => c | 1 => s | ⟨_ + 2, h⟩ => absurd h (Nat.not_lt.2 (Nat.le_add_left _ _))

/-- The first gather's loop runs four times. -/
theorem k1_trips : k1_t1_loop.trips = 4 := by decide +kernel
/-- The second gather's loop runs twelve times. -/
theorem k2_trips : k2_t1_loop.trips = 12 := by decide +kernel
/-- The third gather's loop runs thirty-four times. -/
theorem k3_trips : k3_t1_loop.trips = 34 := by decide +kernel

/-- What an indexed copy of the first gather pays its semaphore. -/
theorem cred1 : ∀ h : S100000x128.Gathers 0 S128x128, ∑ j, (((Memref.whole cc1_scratch1 : Memref sig .scVector .vmem S128x128 .f32)).slice (S128x128.rowRect h.axis' j)
    (S128x128.stride_rowRect h.axis' j)).view.dmaCredit = (Memref.whole cc1_scratch1 : Memref sig .scVector .vmem S128x128 .f32).view.dmaCredit := by decide +kernel

set_option maxRecDepth 16384 in
/-- Call 1's task on a subcore. -/
theorem tile1 (hin : InTable Vq) (d : Dev nD) (i : grid1.Coords) (O : CellTallies nD τ sig (HIx 3)) (W : Waits sig (HIx 3)) (hO : ∀ g, O g none = 0) :
    iprop(levAts (K (F := F)).L (K (F := F)).lev ∗ emp ∗ lent1 Vq d (at1 Vq d main_v8) (i 0, i 1)
        ∗ scopedBufs (V d ((i 0).castLE hcore1) ((i 1).castLE hsub1)) ∗ scopedSems0 (V d ((i 0).castLE hcore1) ((i 1).castLE hsub1))
        ∗ owes (V d ((i 0).castLE hcore1) ((i 1).castLE hsub1)) O W)
      ⊢ wp frame (wpE (defs₀ (F := F)) 𝒱₀ (V d ((i 0).castLE hcore1) ((i 1).castLE hsub1)) none) Set.univ
          (cc1__sc_gather_body i (Memref.whole main_v7_scv) (Memref.isWhole_whole _) (Memref.whole main_arg2_scv) (Memref.isWhole_whole _)
            (Memref.whole main_v8_scv) (Memref.isWhole_whole _) (Memref.whole cc1_scratch0) (Memref.isWhole_whole _) (Memref.whole cc1_scratch1)
            (Memref.isWhole_whole _) cc1_scratch2 cc1_scoped0 cc1_scoped1)
          fun _ => iprop(lent1 Vq d (got1 Vq d) (i 0, i 1)
            ∗ scopedBufs (V d ((i 0).castLE hcore1) ((i 1).castLE hsub1)) ∗ scopedSems0 (V d ((i 0).castLE hcore1) ((i 1).castLE hsub1))
            ∗ ∃ W', ⌜∀ p ∈ W', p ∈ W ∨ p.2 = none⌝ ∗ owes (V d ((i 0).castLE hcore1) ((i 1).castLE hsub1)) O W') := by
  rw [cc1_eq]
  refine scoped_run d _ _ cc1_scratch0 cc1_scratch1 (by decide) rfl rfl (.dma cc1_scratch2.sem) (.dma cc1_scoped0.sem) (.dma cc1_scoped1.sem) (by decide) (by decide) (by decide) (by decide) (by decide) (by decide) _ _ _ O W hO ?_
  exact task_wp (n := 4) (m := 128) rfl d (i 0) (i 1) _ _ (Memref.whole main_v7_scv) (Memref.whole main_arg2_scv) (Memref.whole main_v8_scv)
    (Memref.whole cc1_scratch0) (Memref.isWhole_whole _) (Memref.whole cc1_scratch1) (Memref.isWhole_whole _) cc1_scratch2 cc1_scoped0 cc1_scoped1
    (k1_off1 i) (k1_off1_inb i) squeezes_S1x4x128_S4x128 k1_t1_loop k1_t1_ok k1_off2 k1_off2_inb (k1_off3 i) (k1_off3_inb i)
    (View.set_whole _) (View.set_whole _) (View.set_whole _) keyI (fun _ => rfl) (keyO rfl) (fun _ => rfl) k1_trips (k1_off1_eq i) k1_off2_eq
    (fun t => (k1_off3_eq i t).trans (by congr 1; omega)) (cred1 _) (at1 Vq d main_v7) (at1 Vq d main_arg2) (at1 Vq d main_v8) (got1 Vq d) (hin d).1 rfl (by decide) O W

set_option maxRecDepth 16384 in
/-- A tile of the first gather does its share. -/
theorem tileObl1 (hin : InTable Vq) : (K (F := F)).TileObl (D (F := F)) 𝒱 (P Vq) v₀ 0 := by
  intro d c i O W hO _ _
  simp only [show (P Vq).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 1 () = SparseCore.onTile hcore1 hsub1 (fun c s => cc1__sc_gather_body (coordsV c s) (Memref.whole main_v7_scv) (Memref.isWhole_whole _) (Memref.whole main_arg2_scv) (Memref.isWhole_whole _)
            (Memref.whole main_v8_scv) (Memref.isWhole_whole _) (Memref.whole cc1_scratch0) (Memref.isWhole_whole _) (Memref.whole cc1_scratch1)
            (Memref.isWhole_whole _) cc1_scratch2 cc1_scoped0 cc1_scoped1) ⟨⟩ ((K (F := F)).core 0 c) ((K (F := F)).sub 0 i) from rfl]
  simp only [SparseCore.onTile, hci, and_self, ↓reduceDIte]
  exact (tile1 Vq hin d (coordsV ⟨_, hci.1⟩ ⟨_, hci.2⟩) O W hO).trans (wp_mono frame _ _ fun _ => obl_post)

/-- What an indexed copy of the second gather pays its semaphore. -/
theorem cred2 : ∀ h : S100000x128.Gathers 0 S128x128, ∑ j, (((Memref.whole cc2_scratch1 : Memref sig .scVector .vmem S128x128 .f32)).slice (S128x128.rowRect h.axis' j)
    (S128x128.stride_rowRect h.axis' j)).view.dmaCredit = (Memref.whole cc2_scratch1 : Memref sig .scVector .vmem S128x128 .f32).view.dmaCredit := by decide +kernel

set_option maxRecDepth 16384 in
/-- Call 2's task on a subcore. -/
theorem tile2 (hin : InTable Vq) (d : Dev nD) (i : grid2.Coords) (O : CellTallies nD τ sig (HIx 3)) (W : Waits sig (HIx 3)) (hO : ∀ g, O g none = 0) :
    iprop(levAts (K (F := F)).L (K (F := F)).lev ∗ emp ∗ lent2 Vq d (at2 Vq d main_v11) (i 0, i 1)
        ∗ scopedBufs (V d ((i 0).castLE hcore2) ((i 1).castLE hsub2)) ∗ scopedSems0 (V d ((i 0).castLE hcore2) ((i 1).castLE hsub2))
        ∗ owes (V d ((i 0).castLE hcore2) ((i 1).castLE hsub2)) O W)
      ⊢ wp frame (wpE (defs₀ (F := F)) 𝒱₀ (V d ((i 0).castLE hcore2) ((i 1).castLE hsub2)) none) Set.univ
          (cc2__sc_gather_body i (Memref.whole main_v10_scv) (Memref.isWhole_whole _) (Memref.whole main_arg2_scv) (Memref.isWhole_whole _)
            (Memref.whole main_v11_scv) (Memref.isWhole_whole _) (Memref.whole cc2_scratch0) (Memref.isWhole_whole _) (Memref.whole cc2_scratch1)
            (Memref.isWhole_whole _) cc2_scratch2 cc2_scoped0 cc2_scoped1)
          fun _ => iprop(lent2 Vq d (got2 Vq d) (i 0, i 1)
            ∗ scopedBufs (V d ((i 0).castLE hcore2) ((i 1).castLE hsub2)) ∗ scopedSems0 (V d ((i 0).castLE hcore2) ((i 1).castLE hsub2))
            ∗ ∃ W', ⌜∀ p ∈ W', p ∈ W ∨ p.2 = none⌝ ∗ owes (V d ((i 0).castLE hcore2) ((i 1).castLE hsub2)) O W') := by
  rw [cc2_eq]
  refine scoped_run d _ _ cc2_scratch0 cc2_scratch1 (by decide) rfl rfl (.dma cc2_scratch2.sem) (.dma cc2_scoped0.sem) (.dma cc2_scoped1.sem) (by decide) (by decide) (by decide) (by decide) (by decide) (by decide) _ _ _ O W hO ?_
  exact task_wp (n := 12) (m := 384) rfl d (i 0) (i 1) _ _ (Memref.whole main_v10_scv) (Memref.whole main_arg2_scv) (Memref.whole main_v11_scv)
    (Memref.whole cc2_scratch0) (Memref.isWhole_whole _) (Memref.whole cc2_scratch1) (Memref.isWhole_whole _) cc2_scratch2 cc2_scoped0 cc2_scoped1
    (k2_off1 i) (k2_off1_inb i) squeezes_S1x12x128_S12x128 k2_t1_loop k2_t1_ok k2_off2 k2_off2_inb (k2_off3 i) (k2_off3_inb i)
    (View.set_whole _) (View.set_whole _) (View.set_whole _) keyI (fun _ => rfl) (keyO rfl) (fun _ => rfl) k2_trips (k2_off1_eq i) k2_off2_eq
    (fun t => (k2_off3_eq i t).trans (by congr 1; omega)) (cred2 _) (at2 Vq d main_v10) (at2 Vq d main_arg2) (at2 Vq d main_v11) (got2 Vq d) (hin d).2.1 rfl (by decide) O W

set_option maxRecDepth 16384 in
/-- A tile of the second gather does its share. -/
theorem tileObl2 (hin : InTable Vq) : (K (F := F)).TileObl (D (F := F)) 𝒱 (P Vq) v₀ 1 := by
  intro d c i O W hO _ _
  simp only [show (P Vq).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [show defs₀ (F := F) (.scVector ((K (F := F)).core 1 c) ((K (F := F)).sub 1 i)) 2 () = SparseCore.onTile hcore2 hsub2 (fun c s => cc2__sc_gather_body (coordsV c s) (Memref.whole main_v10_scv) (Memref.isWhole_whole _) (Memref.whole main_arg2_scv) (Memref.isWhole_whole _)
            (Memref.whole main_v11_scv) (Memref.isWhole_whole _) (Memref.whole cc2_scratch0) (Memref.isWhole_whole _) (Memref.whole cc2_scratch1)
            (Memref.isWhole_whole _) cc2_scratch2 cc2_scoped0 cc2_scoped1) ⟨⟩ ((K (F := F)).core 1 c) ((K (F := F)).sub 1 i) from rfl]
  simp only [SparseCore.onTile, hci, and_self, ↓reduceDIte]
  exact (tile2 Vq hin d (coordsV ⟨_, hci.1⟩ ⟨_, hci.2⟩) O W hO).trans (wp_mono frame _ _ fun _ => obl_post)

/-- What an indexed copy of the third gather pays its semaphore. -/
theorem cred3 : ∀ h : S100000x128.Gathers 0 S128x128, ∑ j, (((Memref.whole cc3_scratch1 : Memref sig .scVector .vmem S128x128 .f32)).slice (S128x128.rowRect h.axis' j)
    (S128x128.stride_rowRect h.axis' j)).view.dmaCredit = (Memref.whole cc3_scratch1 : Memref sig .scVector .vmem S128x128 .f32).view.dmaCredit := by decide +kernel

set_option maxRecDepth 16384 in
/-- Call 3's task on a subcore. -/
theorem tile3 (hin : InTable Vq) (d : Dev nD) (i : grid3.Coords) (O : CellTallies nD τ sig (HIx 3)) (W : Waits sig (HIx 3)) (hO : ∀ g, O g none = 0) :
    iprop(levAts (K (F := F)).L (K (F := F)).lev ∗ emp ∗ lent3 Vq d (at3 Vq d main_v14) (i 0, i 1)
        ∗ scopedBufs (V d ((i 0).castLE hcore3) ((i 1).castLE hsub3)) ∗ scopedSems0 (V d ((i 0).castLE hcore3) ((i 1).castLE hsub3))
        ∗ owes (V d ((i 0).castLE hcore3) ((i 1).castLE hsub3)) O W)
      ⊢ wp frame (wpE (defs₀ (F := F)) 𝒱₀ (V d ((i 0).castLE hcore3) ((i 1).castLE hsub3)) none) Set.univ
          (cc3__sc_gather_body i (Memref.whole main_v13_scv) (Memref.isWhole_whole _) (Memref.whole main_arg2_scv) (Memref.isWhole_whole _)
            (Memref.whole main_v14_scv) (Memref.isWhole_whole _) (Memref.whole cc3_scratch0) (Memref.isWhole_whole _) (Memref.whole cc3_scratch1)
            (Memref.isWhole_whole _) cc3_scratch2 cc3_scoped0 cc3_scoped1)
          fun _ => iprop(lent3 Vq d (got3 Vq d) (i 0, i 1)
            ∗ scopedBufs (V d ((i 0).castLE hcore3) ((i 1).castLE hsub3)) ∗ scopedSems0 (V d ((i 0).castLE hcore3) ((i 1).castLE hsub3))
            ∗ ∃ W', ⌜∀ p ∈ W', p ∈ W ∨ p.2 = none⌝ ∗ owes (V d ((i 0).castLE hcore3) ((i 1).castLE hsub3)) O W') := by
  rw [cc3_eq]
  refine scoped_run d _ _ cc3_scratch0 cc3_scratch1 (by decide) rfl rfl (.dma cc3_scratch2.sem) (.dma cc3_scoped0.sem) (.dma cc3_scoped1.sem) (by decide) (by decide) (by decide) (by decide) (by decide) (by decide) _ _ _ O W hO ?_
  exact task_wp (n := 34) (m := 1088) rfl d (i 0) (i 1) _ _ (Memref.whole main_v13_scv) (Memref.whole main_arg2_scv) (Memref.whole main_v14_scv)
    (Memref.whole cc3_scratch0) (Memref.isWhole_whole _) (Memref.whole cc3_scratch1) (Memref.isWhole_whole _) cc3_scratch2 cc3_scoped0 cc3_scoped1
    (k3_off1 i) (k3_off1_inb i) squeezes_S1x34x128_S34x128 k3_t1_loop k3_t1_ok k3_off2 k3_off2_inb (k3_off3 i) (k3_off3_inb i)
    (View.set_whole _) (View.set_whole _) (View.set_whole _) keyI (fun _ => rfl) (keyO rfl) (fun _ => rfl) k3_trips (k3_off1_eq i) k3_off2_eq
    (fun t => (k3_off3_eq i t).trans (by congr 1; omega)) (cred3 _) (at3 Vq d main_v13) (at3 Vq d main_arg2) (at3 Vq d main_v14) (got3 Vq d) (hin d).2.2 rfl (by decide) O W

set_option maxRecDepth 16384 in
/-- A tile of the third gather does its share. -/
theorem tileObl3 (hin : InTable Vq) : (K (F := F)).TileObl (D (F := F)) 𝒱 (P Vq) v₀ 2 := by
  intro d c i O W hO _ _
  simp only [show (P Vq).ox = fun _ _ => 0 from rfl, add_zero]
  have hci : ((K (F := F)).core 2 c).val < grid3.bound 0 ∧ ((K (F := F)).sub 2 i).val < grid3.bound 1 := ⟨c.isLt, i.isLt⟩
  change _ ⊢ wp _ _ _ (Pipeline.liftProg (defs₀ (F := F) (.scVector ((K (F := F)).core 2 c) ((K (F := F)).sub 2 i)) 3 ())) _
  refine BI.Entails.trans ?_ (Pipeline.wp_liftProg (D (F := F)) (Pipeline.defs_kernel pcfgs defs₀) 𝒱₀ _ Set.univ none _ _)
  rw [show defs₀ (F := F) (.scVector ((K (F := F)).core 2 c) ((K (F := F)).sub 2 i)) 3 () = SparseCore.onTile hcore3 hsub3 (fun c s => cc3__sc_gather_body (coordsV c s) (Memref.whole main_v13_scv) (Memref.isWhole_whole _) (Memref.whole main_arg2_scv) (Memref.isWhole_whole _)
            (Memref.whole main_v14_scv) (Memref.isWhole_whole _) (Memref.whole cc3_scratch0) (Memref.isWhole_whole _) (Memref.whole cc3_scratch1)
            (Memref.isWhole_whole _) cc3_scratch2 cc3_scoped0 cc3_scoped1) ⟨⟩ ((K (F := F)).core 2 c) ((K (F := F)).sub 2 i) from rfl]
  simp only [SparseCore.onTile, hci, and_self, ↓reduceDIte]
  exact (tile3 Vq hin d (coordsV ⟨_, hci.1⟩ ⟨_, hci.2⟩) O W hO).trans (wp_mono frame _ _ fun _ => obl_post)

/-- Every call's tasks meet their obligations. -/
theorem tileObl (hin : InTable Vq) (q : Fin 3) : (K (F := F)).TileObl (D (F := F)) 𝒱 (P Vq) v₀ q :=
  match q with
  | 0 => tileObl1 Vq hin
  | 1 => tileObl2 Vq hin
  | 2 => tileObl3 Vq hin

end Payload

end Cert.Proof.Ker

end
-- ==== Proof.TcBody.lean ====
/- The TensorCore's kernel bodies: each loads its blocks whole, computes and stores one block whole. The dense body is
   printed three times, once per chunk of the rows; the three are one program. -/
module

public import proofs.«01_k».proof.Proof.Setup

@[expose] public section

noncomputable section

namespace Cert.Proof.Ker

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

/-! ## Whole loads and stores -/

/-- The rectangle of a shape's own size at offset 0 places every index where it is. -/
theorem unit_zero_emb {s : Shape} (off : Fin s.rank → ℕ) (h0 : ∀ a, off a = 0) (h) (x : s.Idx) :
    (Rect.unit (s := s) off s.size h).emb x = x :=
  funext fun a => Fin.ext (by
    show off a + 1 * (x a).val = (x a).val
    rw [h0 a]; omega)

omit [FloatOps F] in
/-- A load of the whole shape reads what the view reads. -/
theorem readAt_all {κ : Kind} {sp : Space} {s : Shape} {e : EltTy} (v : View sig κ sp s e) (off : Fin s.rank → ℕ) (h0 : ∀ a, off a = 0) (h)
    (f : v.ty.Contents (Elt F)) :
    v.readAt (Elt F) (Rect.unit (s := s) off s.size h).toLoadRect f = v.read (Elt F) f :=
  funext fun x => congrArg (v.read (Elt F) f) (unit_zero_emb off h0 h x)

omit [FloatOps F] in
/-- A store of the whole shape leaves what was stored. -/
theorem read_write_all {κ : Kind} {sp : Space} {s : Shape} {e : EltTy} (v : View sig κ sp s e) (off : Fin s.rank → ℕ) (h0 : ∀ a, off a = 0) (h)
    (f : v.ty.Contents (Elt F)) (w : s.Idx → Elt F e) :
    v.read (Elt F) ((v.slice (Rect.unit (s := s) off s.size h)).write (Elt F) f w Finset.univ) = w :=
  funext fun x => by
    have := congrFun (View.read_write_univ (Val := Elt F) (v := v.slice (Rect.unit (s := s) off s.size h)) f w) x
    refine Eq.trans ?_ this
    exact congrArg (v.read (Elt F) ((v.slice (Rect.unit (s := s) off s.size h)).write (Elt F) f w Finset.univ))
      (unit_zero_emb off h0 h x).symm

/-! ## The bodies as functions -/

/-- What one point of the dense kernel stores: from the gathered rows, the times, the time table, the weights and
    the weights' means. -/
def tcBlock (x0 : Vec F S32x128x128 .f32) (x1 : Vec F S1x1x4096 .i32) (x2 : Vec F S304x128 .bf16) (x3 : Vec F S256x1024 .bf16)
    (x4 : Vec F S256x128 .bf16) : FVec F S4096x1024 .f32 :=
  k4_pay1 (k4_pay3 x1 x2 x0 x3) (k4_pay4 x1 x2 x0 x4) (k4_pay5 x1 x2 x0 x3 x4) (Scalar.ofBits .f32 0x00000000#32)

/-- The kernel of the weights' means, run. -/
theorem wm_run (c : Dev nD) (M0 : Memref sig .tc .vmem S256x1024 .f32) (h0 : M0.IsWhole) (M1 : Memref sig .tc .vmem S256x128 .bf16) (h1 : M1.IsWhole)
    (X0 : Vec F S256x1024 .f32) (X1 : Vec F S256x128 .bf16) (E : Set ℕ) (Q : PUnit → sProp 𝕄) :
    iprop(owns (c : Thread nD τ) M0 fullShare X0 ∗ owns (c : Thread nD τ) M1 fullShare X1
        ∗ (iprop(owns (c : Thread nD τ) M0 fullShare X0 ∗ owns (c : Thread nD τ) M1 fullShare (k0_pay1 X0)) -∗ Q ⟨⟩))
      ⊢ wp frame (wpE (defs₀ (F := F)) Variants.none (c : Thread nD τ) none) E (cc0__wm_body M0 h0 M1 h1) Q := by
  unfold owns
  iintro ⟨⟨%f0, %e0, H0⟩, ⟨%f1, %e1, H1⟩, Hk⟩
  subst e0
  sl_exec!
  sl_step
  iapply Hk
  isplitl [H0]
  · iexists f0; isplitr; · ipureintro; rfl
    iexact H0
  iexists _; isplitr; swap; · iexact H1
  ipureintro
  unfold wm_run.sl.H1_1
  simp only [View.writes, List.foldl]
  rw [read_write_all _ _ (fun a => by fin_cases a <;> rfl), readAt_all _ _ (fun a => by fin_cases a <;> rfl)]

/-- One point of the dense kernel, run. -/
theorem dense_run (c : Dev nD) (i : grid4.Coords) (M1 : Memref sig .tc .vmem S32x128x128 .f32) (h1 : M1.IsWhole) (M2 : Memref sig .tc .vmem S1x1x4096 .i32) (h2 : M2.IsWhole)
    (M3 : Memref sig .tc .vmem S304x128 .bf16) (h3 : M3.IsWhole) (M4 : Memref sig .tc .vmem S256x1024 .bf16) (h4 : M4.IsWhole)
    (M5 : Memref sig .tc .vmem S256x128 .bf16) (h5 : M5.IsWhole) (M6 : Memref sig .tc .vmem S4096x1024 .f32) (h6 : M6.IsWhole)
    (X1 : Vec F S32x128x128 .f32) (X2 : Vec F S1x1x4096 .i32) (X3 : Vec F S304x128 .bf16) (X4 : Vec F S256x1024 .bf16)
    (X5 : Vec F S256x128 .bf16) (X6 : Vec F S4096x1024 .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ (iprop(owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare (tcBlock X1 X2 X3 X4 X5)) -∗ Q ⟨⟩))
      ⊢ wp frame (wpE (defs₀ (F := F)) Variants.none (c : Thread nD τ) none) E (cc4__tc_body_first i M1 h1 M2 h2 M3 h3 M4 h4 M5 h5 M6 h6) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  subst e1 e2 e3 e4 e5
  sl_exec!
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr; swap; · iexact H6
  ipureintro
  unfold dense_run.sl.H6_1
  simp only [View.writes, List.foldl]
  rw [read_write_all _ _ (fun a => by fin_cases a <;> rfl)]
  unfold dense_run.sl.r dense_run.sl.r_1 dense_run.sl.r_2 dense_run.sl.cst_15
  rw [readAt_all M1.view _ (fun a => by fin_cases a <;> rfl), readAt_all M2.view _ (fun a => by fin_cases a <;> rfl),
    readAt_all M3.view _ (fun a => by fin_cases a <;> rfl), readAt_all M4.view _ (fun a => by fin_cases a <;> rfl),
    readAt_all M5.view _ (fun a => by fin_cases a <;> rfl)]
  rfl

set_option maxRecDepth 65536 in
/-- The second chunk's body is the first's. -/
theorem cc5_eq (i : grid5.Coords) (j : grid4.Coords) (A : Memref sig .tc .hbm S204800x1024 .f32) (hA : A.IsWhole) (M1 : Memref sig .tc .vmem S32x128x128 .f32) (h1 : M1.IsWhole) (M2 : Memref sig .tc .vmem S1x1x4096 .i32) (h2 : M2.IsWhole)
    (M3 : Memref sig .tc .vmem S304x128 .bf16) (h3 : M3.IsWhole) (M4 : Memref sig .tc .vmem S256x1024 .bf16) (h4 : M4.IsWhole)
    (M5 : Memref sig .tc .vmem S256x128 .bf16) (h5 : M5.IsWhole) (M6 : Memref sig .tc .vmem S4096x1024 .f32) (h6 : M6.IsWhole) :
    cc5__tc_body_next (F := F) i A hA M1 h1 M2 h2 M3 h3 M4 h4 M5 h5 M6 h6 = cc4__tc_body_first j M1 h1 M2 h2 M3 h3 M4 h4 M5 h5 M6 h6 := rfl

set_option maxRecDepth 65536 in
/-- The third chunk's body is the first's. -/
theorem cc6_eq (i : grid6.Coords) (j : grid4.Coords) (A : Memref sig .tc .hbm S204800x1024 .f32) (hA : A.IsWhole) (M1 : Memref sig .tc .vmem S32x128x128 .f32) (h1 : M1.IsWhole) (M2 : Memref sig .tc .vmem S1x1x4096 .i32) (h2 : M2.IsWhole)
    (M3 : Memref sig .tc .vmem S304x128 .bf16) (h3 : M3.IsWhole) (M4 : Memref sig .tc .vmem S256x1024 .bf16) (h4 : M4.IsWhole)
    (M5 : Memref sig .tc .vmem S256x128 .bf16) (h5 : M5.IsWhole) (M6 : Memref sig .tc .vmem S4096x1024 .f32) (h6 : M6.IsWhole) :
    cc6__tc_body_next (F := F) i A hA M1 h1 M2 h2 M3 h3 M4 h4 M5 h5 M6 h6 = cc4__tc_body_first j M1 h1 M2 h2 M3 h3 M4 h4 M5 h5 M6 h6 := rfl

end Cert.Proof.Ker

end
-- ==== Proof.Regions.lean ====
/- The TensorCore's four kernel regions: the proof data of each pipeline, entered at a valuation of the buffers, and the
   region's record over every unscoped buffer held, left at the valuation the pipeline's write-backs make of it. -/
module

public import proofs.«01_k».proof.Proof.TcBody
public import Idealize.ShloMosaic.Lib.Pipeline.RegionArraysS
public import Idealize.ShloMosaic.Lib.Pipeline.FrameBody

@[expose] public section

noncomputable section

namespace Cert.Proof.Ker

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 3) (Elt F) ℕ UU ℕ

/-- The pairs of an own cell and an index at a level at most `b`. -/
abbrev below (c : Dev nD) (b : ℕ) : Set (SemLoc sig × HIx 3) := {p | (K (F := F)).lev ((c : Thread nD τ), p.1) p.2 ≤ b}

/-! ## The proof data -/

section Data

variable (V : Dev nD → Valuation τ sig (Elt F)) (O : Dev nD → CellTallies nD τ sig (HIx 3)) (b : ℕ)

/-- The pipeline of the weights' means. -/
def dat0 (c : Dev nD) : Dat τ (Elt F) (HIx 3) ℕ UU ℕ cfg0 c where
  A w := V c (Proc.devRef .tc (Pipeline.arrRef spec0 w))
  after w t := match w with
    | ⟨0, _⟩ => ((cfg0.win 0).blk t).view.read (Elt F) (V c (Proc.devRef .tc main_arg4))
    | ⟨1, _⟩ => k0_pay1 (((cfg0.win 0).blk t).view.read (Elt F) (V c (Proc.devRef .tc main_arg4)))
  Φ _ := Pipeline.scopedRest spec0 c
  q _ := fullShare
  owed _ := O c
  recorded _ := below (F := F) c b

/-- The dense pipeline of the first chunk. -/
def dat4 (c : Dev nD) : Dat τ (Elt F) (HIx 3) ℕ UU ℕ cfg4 c where
  A w := V c (Proc.devRef .tc (Pipeline.arrRef spec4 w))
  after w t := match w with
    | ⟨0, _⟩ => ((cfg4.win 0).blk t).view.read (Elt F) (V c (Proc.devRef .tc main_v8))
    | ⟨1, _⟩ => ((cfg4.win 1).blk t).view.read (Elt F) (V c (Proc.devRef .tc main_v16))
    | ⟨2, _⟩ => ((cfg4.win 2).blk t).view.read (Elt F) (V c (Proc.devRef .tc main_v3))
    | ⟨3, _⟩ => ((cfg4.win 3).blk t).view.read (Elt F) (V c (Proc.devRef .tc main_v4))
    | ⟨4, _⟩ => ((cfg4.win 4).blk t).view.read (Elt F) (V c (Proc.devRef .tc main_v5))
    | ⟨5, _⟩ => tcBlock (((cfg4.win 0).blk t).view.read (Elt F) (V c (Proc.devRef .tc main_v8)))
        (((cfg4.win 1).blk t).view.read (Elt F) (V c (Proc.devRef .tc main_v16)))
        (((cfg4.win 2).blk t).view.read (Elt F) (V c (Proc.devRef .tc main_v3)))
        (((cfg4.win 3).blk t).view.read (Elt F) (V c (Proc.devRef .tc main_v4)))
        (((cfg4.win 4).blk t).view.read (Elt F) (V c (Proc.devRef .tc main_v5)))
  Φ _ := Pipeline.scopedRest spec4 c
  q _ := fullShare
  owed _ := O c
  recorded _ := below (F := F) c b

/-- The dense pipeline of the second chunk. -/
def dat5 (c : Dev nD) : Dat τ (Elt F) (HIx 3) ℕ UU ℕ cfg5 c where
  A w := V c (Proc.devRef .tc (Pipeline.arrRef spec5 w))
  after w t := match w with
    | ⟨0, _⟩ => ((cfg5.win 0).blk t).view.read (Elt F) (V c (Proc.devRef .tc main_v11))
    | ⟨1, _⟩ => ((cfg5.win 1).blk t).view.read (Elt F) (V c (Proc.devRef .tc main_v19))
    | ⟨2, _⟩ => ((cfg5.win 2).blk t).view.read (Elt F) (V c (Proc.devRef .tc main_v3))
    | ⟨3, _⟩ => ((cfg5.win 3).blk t).view.read (Elt F) (V c (Proc.devRef .tc main_v4))
    | ⟨4, _⟩ => ((cfg5.win 4).blk t).view.read (Elt F) (V c (Proc.devRef .tc main_v5))
    | ⟨5, _⟩ => tcBlock (((cfg5.win 0).blk t).view.read (Elt F) (V c (Proc.devRef .tc main_v11)))
        (((cfg5.win 1).blk t).view.read (Elt F) (V c (Proc.devRef .tc main_v19)))
        (((cfg5.win 2).blk t).view.read (Elt F) (V c (Proc.devRef .tc main_v3)))
        (((cfg5.win 3).blk t).view.read (Elt F) (V c (Proc.devRef .tc main_v4)))
        (((cfg5.win 4).blk t).view.read (Elt F) (V c (Proc.devRef .tc main_v5)))
  Φ _ := Pipeline.scopedRest spec5 c
  q _ := fullShare
  owed _ := O c
  recorded _ := below (F := F) c b

/-- The dense pipeline of the third chunk. -/
def dat6 (c : Dev nD) : Dat τ (Elt F) (HIx 3) ℕ UU ℕ cfg6 c where
  A w := V c (Proc.devRef .tc (Pipeline.arrRef spec6 w))
  after w t := match w with
    | ⟨0, _⟩ => ((cfg6.win 0).blk t).view.read (Elt F) (V c (Proc.devRef .tc main_v14))
    | ⟨1, _⟩ => ((cfg6.win 1).blk t).view.read (Elt F) (V c (Proc.devRef .tc main_v22))
    | ⟨2, _⟩ => ((cfg6.win 2).blk t).view.read (Elt F) (V c (Proc.devRef .tc main_v3))
    | ⟨3, _⟩ => ((cfg6.win 3).blk t).view.read (Elt F) (V c (Proc.devRef .tc main_v4))
    | ⟨4, _⟩ => ((cfg6.win 4).blk t).view.read (Elt F) (V c (Proc.devRef .tc main_v5))
    | ⟨5, _⟩ => tcBlock (((cfg6.win 0).blk t).view.read (Elt F) (V c (Proc.devRef .tc main_v14)))
        (((cfg6.win 1).blk t).view.read (Elt F) (V c (Proc.devRef .tc main_v22)))
        (((cfg6.win 2).blk t).view.read (Elt F) (V c (Proc.devRef .tc main_v3)))
        (((cfg6.win 3).blk t).view.read (Elt F) (V c (Proc.devRef .tc main_v4)))
        (((cfg6.win 4).blk t).view.read (Elt F) (V c (Proc.devRef .tc main_v5)))
  Φ _ := Pipeline.scopedRest spec6 c
  q _ := fullShare
  owed _ := O c
  recorded _ := below (F := F) c b

/-- No pipeline prefetches a table. -/
abbrev adm : (p : Fin 4) → (pcfgs (F := F) p).Adm := fun p => (cfgs p).toPCfg_adm

/-- The four pipelines' proof data. -/
def pdats : (p : Fin 4) → (c : Dev nD) → Dat τ (Elt F) (HIx 3) ℕ UU ℕ (Pipeline.pin (pcfgs (F := F)) adm p) c
  | ⟨0, _⟩ => fun c => dat0 V O b c
  | ⟨1, _⟩ => fun c => dat4 V O b c
  | ⟨2, _⟩ => fun c => dat5 V O b c
  | ⟨3, _⟩ => fun c => dat6 V O b c

/-! ## The body obligations -/

/-- A point of the dense kernel between its invariant's ends, its inputs' buffers at `Xk` whatever was under them. -/
theorem dense_point (c : Dev nD) (i : grid4.Coords) (M1 : Memref sig .tc .vmem S32x128x128 .f32) (h1 : M1.IsWhole) (M2 : Memref sig .tc .vmem S1x1x4096 .i32) (h2 : M2.IsWhole)
    (M3 : Memref sig .tc .vmem S304x128 .bf16) (h3 : M3.IsWhole) (M4 : Memref sig .tc .vmem S256x1024 .bf16) (h4 : M4.IsWhole)
    (M5 : Memref sig .tc .vmem S256x128 .bf16) (h5 : M5.IsWhole) (M6 : Memref sig .tc .vmem S4096x1024 .f32) (h6 : M6.IsWhole)
    (X1 : Vec F S32x128x128 .f32) (X2 : Vec F S1x1x4096 .i32) (X3 : Vec F S304x128 .bf16) (X4 : Vec F S256x1024 .bf16)
    (X5 : Vec F S256x128 .bf16) {D1 D2 D3 D4 D5 D6 : Type}
    (B1 : D1 → Vec F S32x128x128 .f32) (B2 : D2 → Vec F S1x1x4096 .i32) (B3 : D3 → Vec F S304x128 .bf16) (B4 : D4 → Vec F S256x1024 .bf16)
    (B5 : D5 → Vec F S256x128 .bf16) (B6 : D6 → Vec F S4096x1024 .f32)
    (e1 : ∀ d, B1 d = X1) (e2 : ∀ d, B2 d = X2) (e3 : ∀ d, B3 d = X3) (e4 : ∀ d, B4 d = X4) (e5 : ∀ d, B5 d = X5) (Φ Ow : sProp 𝕄) :
    iprop(Φ ∗ Ow ∗ (∃ d, owns (c : Thread nD τ) M1 fullShare (B1 d)) ∗ (∃ d, owns (c : Thread nD τ) M2 fullShare (B2 d))
        ∗ (∃ d, owns (c : Thread nD τ) M3 fullShare (B3 d)) ∗ (∃ d, owns (c : Thread nD τ) M4 fullShare (B4 d))
        ∗ (∃ d, owns (c : Thread nD τ) M5 fullShare (B5 d)) ∗ (∃ d, owns (c : Thread nD τ) M6 fullShare (B6 d)))
      ⊢ wp frame (wpE (defs₀ (F := F)) Variants.none (c : Thread nD τ) none) Set.univ (cc4__tc_body_first i M1 h1 M2 h2 M3 h3 M4 h4 M5 h5 M6 h6)
        fun _ => iprop(Φ ∗ Ow ∗ owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare (tcBlock X1 X2 X3 X4 X5)) := by
  iintro ⟨HΦ, HO, ⟨%d1, H1⟩, ⟨%d2, H2⟩, ⟨%d3, H3⟩, ⟨%d4, H4⟩, ⟨%d5, H5⟩, ⟨%d6, H6⟩⟩
  rw [e1 d1, e2 d2, e3 d3, e4 d4, e5 d5]
  iapply (dense_run c i M1 h1 M2 h2 M3 h3 M4 h4 M5 h5 M6 h6 X1 X2 X3 X4 X5 (B6 d6) Set.univ _)
  isplitl [H1]; · iexact H1
  isplitl [H2]; · iexact H2
  isplitl [H3]; · iexact H3
  isplitl [H4]; · iexact H4
  isplitl [H5]; · iexact H5
  isplitl [H6]; · iexact H6
  iintro H
  isplitl [HΦ]; · iexact HΦ
  isplitl [HO]; · iexact HO
  iexact H

/-- The body of the weights' means meets its obligation. -/
theorem body0 (c : Dev nD) : BodyObligation (dat0 V O b c) (defs₀ (F := F)) 𝒱₀ none Set.univ := fun t => by
  rw [bigSep_W0, bigSep_W0]
  show iprop(Pipeline.scopedRest spec0 c ∗ (dat0 V O b c).owesAt none t.castSucc
      ∗ (∃ d, owns (c : Thread nD τ) (st0_0 t) fullShare ((dat0 V O b c).before 0 t d)) ∗ (∃ d, owns (c : Thread nD τ) (st0_1 t) fullShare ((dat0 V O b c).before 1 t d)))
    ⊢ wp frame (wpE (defs₀ (F := F)) Variants.none (c : Thread nD τ) none) Set.univ (bodyAt0 t)
      fun _ => iprop(Pipeline.scopedRest spec0 c ∗ (dat0 V O b c).owesAt none t.castSucc
        ∗ owns (c : Thread nD τ) (st0_0 t) fullShare ((dat0 V O b c).after 0 t) ∗ owns (c : Thread nD τ) (st0_1 t) fullShare ((dat0 V O b c).after 1 t))
  iintro ⟨HΦ, HO, ⟨%d0, H0⟩, ⟨%d1, H1⟩⟩
  rw [Dat.before_in_eq_fetched (dat0 V O b c) 0 rfl (fun _ => rfl) (fun _ _ _ => rfl) (fun _ => rfl) t d0]
  iapply (wm_run c (st0_0 t) _ (st0_1 t) _ ((dat0 V O b c).after 0 t) _ Set.univ _)
  isplitl [H0]; · iexact H0
  isplitl [H1]; · iexact H1
  iintro H
  isplitl [HΦ]; · iexact HΦ
  isplitl [HO]; · iexact HO
  iexact H

/-- The first chunk's body meets its obligation at every point. -/
theorem body4 (c : Dev nD) : BodyObligation (dat4 V O b c) (defs₀ (F := F)) 𝒱₀ none Set.univ := fun t => by
  rw [bigSep_W4, bigSep_W4]
  have hin : ∀ w : Fin 6, (cfg4.win w).isOut = false → (∀ t t', (cfg4.win w).clip (cfg4.grid.coords t) = (cfg4.win w).clip (cfg4.grid.coords t')) →
      (∀ t, (cfg4.win w).cut (cfg4.grid.coords t) ((dat4 V O b c).after w t) = (dat4 V O b c).blockOf w t) →
      ∀ d, (dat4 V O b c).before w t d = (dat4 V O b c).fetched w t d := fun w hw hc hk d =>
    Dat.before_in_eq_fetched (dat4 V O b c) w hw (fun _ => rfl) (fun t t' _ => hc t t') hk t d
  exact dense_point c (grid4.coords t) (st4_0 t) _ (st4_1 t) _ (st4_2 t) _ (st4_3 t) _ (st4_4 t) _ (st4_5 t) _ _ _ _ _ _ _ _ _ _ _ _
    (hin 0 rfl (fun _ _ => rfl) fun _ => rfl) (hin 1 rfl (fun _ _ => rfl) fun _ => rfl) (hin 2 rfl (fun _ _ => rfl) fun _ => rfl)
    (hin 3 rfl (fun _ _ => rfl) fun _ => rfl) (hin 4 rfl (fun _ _ => rfl) fun _ => rfl)
    (Pipeline.scopedRest spec4 c) ((dat4 V O b c).owesAt none t.castSucc)

/-- The second chunk's body meets its obligation at every point. -/
theorem body5 (c : Dev nD) : BodyObligation (dat5 V O b c) (defs₀ (F := F)) 𝒱₀ none Set.univ := fun t => by
  rw [bigSep_W5, bigSep_W5]
  have hin : ∀ w : Fin 6, (cfg5.win w).isOut = false → (∀ t t', (cfg5.win w).clip (cfg5.grid.coords t) = (cfg5.win w).clip (cfg5.grid.coords t')) →
      (∀ t, (cfg5.win w).cut (cfg5.grid.coords t) ((dat5 V O b c).after w t) = (dat5 V O b c).blockOf w t) →
      ∀ d, (dat5 V O b c).before w t d = (dat5 V O b c).fetched w t d := fun w hw hc hk d =>
    Dat.before_in_eq_fetched (dat5 V O b c) w hw (fun _ => rfl) (fun t t' _ => hc t t') hk t d
  have h := dense_point c (grid4.coords t4_0) (st5_0 t) (hstage5_0 ((cfg5.slots t 0).cast nbuf5_0)) (st5_1 t) (hstage5_1 ((cfg5.slots t 1).cast nbuf5_1)) (st5_2 t) (hstage5_2 ((cfg5.slots t 2).cast nbuf5_2)) (st5_3 t) (hstage5_3 ((cfg5.slots t 3).cast nbuf5_3)) (st5_4 t) (hstage5_4 ((cfg5.slots t 4).cast nbuf5_4)) (st5_5 t) (hstage5_5 ((cfg5.slots t 5).cast nbuf5_5))
    ((dat5 V O b c).after 0 t) ((dat5 V O b c).after 1 t) ((dat5 V O b c).after 2 t) ((dat5 V O b c).after 3 t) ((dat5 V O b c).after 4 t)
    (fun d => (dat5 V O b c).before 0 t d) (fun d => (dat5 V O b c).before 1 t d) (fun d => (dat5 V O b c).before 2 t d) (fun d => (dat5 V O b c).before 3 t d) (fun d => (dat5 V O b c).before 4 t d) (fun d => (dat5 V O b c).before 5 t d)
    (hin 0 rfl (fun _ _ => rfl) fun _ => rfl) (hin 1 rfl (fun _ _ => rfl) fun _ => rfl) (hin 2 rfl (fun _ _ => rfl) fun _ => rfl)
    (hin 3 rfl (fun _ _ => rfl) fun _ => rfl) (hin 4 rfl (fun _ _ => rfl) fun _ => rfl)
    (Pipeline.scopedRest spec5 c) ((dat5 V O b c).owesAt none t.castSucc)
  rw [← cc5_eq (grid5.coords t) (grid4.coords t4_0) (Memref.whole main_v17) (Memref.isWhole_whole _)] at h
  exact h

/-- The third chunk's body meets its obligation at every point. -/
theorem body6 (c : Dev nD) : BodyObligation (dat6 V O b c) (defs₀ (F := F)) 𝒱₀ none Set.univ := fun t => by
  rw [bigSep_W6, bigSep_W6]
  have hin : ∀ w : Fin 6, (cfg6.win w).isOut = false → (∀ t t', (cfg6.win w).clip (cfg6.grid.coords t) = (cfg6.win w).clip (cfg6.grid.coords t')) →
      (∀ t, (cfg6.win w).cut (cfg6.grid.coords t) ((dat6 V O b c).after w t) = (dat6 V O b c).blockOf w t) →
      ∀ d, (dat6 V O b c).before w t d = (dat6 V O b c).fetched w t d := fun w hw hc hk d =>
    Dat.before_in_eq_fetched (dat6 V O b c) w hw (fun _ => rfl) (fun t t' _ => hc t t') hk t d
  have h := dense_point c (grid4.coords t4_0) (st6_0 t) (hstage6_0 ((cfg6.slots t 0).cast nbuf6_0)) (st6_1 t) (hstage6_1 ((cfg6.slots t 1).cast nbuf6_1)) (st6_2 t) (hstage6_2 ((cfg6.slots t 2).cast nbuf6_2)) (st6_3 t) (hstage6_3 ((cfg6.slots t 3).cast nbuf6_3)) (st6_4 t) (hstage6_4 ((cfg6.slots t 4).cast nbuf6_4)) (st6_5 t) (hstage6_5 ((cfg6.slots t 5).cast nbuf6_5))
    ((dat6 V O b c).after 0 t) ((dat6 V O b c).after 1 t) ((dat6 V O b c).after 2 t) ((dat6 V O b c).after 3 t) ((dat6 V O b c).after 4 t)
    (fun d => (dat6 V O b c).before 0 t d) (fun d => (dat6 V O b c).before 1 t d) (fun d => (dat6 V O b c).before 2 t d) (fun d => (dat6 V O b c).before 3 t d) (fun d => (dat6 V O b c).before 4 t d) (fun d => (dat6 V O b c).before 5 t d)
    (hin 0 rfl (fun _ _ => rfl) fun _ => rfl) (hin 1 rfl (fun _ _ => rfl) fun _ => rfl) (hin 2 rfl (fun _ _ => rfl) fun _ => rfl)
    (hin 3 rfl (fun _ _ => rfl) fun _ => rfl) (hin 4 rfl (fun _ _ => rfl) fun _ => rfl)
    (Pipeline.scopedRest spec6 c) ((dat6 V O b c).owesAt none t.castSucc)
  rw [← cc6_eq (grid6.coords t) (grid4.coords t4_0) (Memref.whole main_v20) (Memref.isWhole_whole _)] at h
  exact h

end Data

end Cert.Proof.Ker

end
-- ==== Proof.RegionRec.lean ====
/- A kernel region of the TensorCore as a step of @main: from every unscoped buffer held at a valuation to the same
   buffers at the valuation after the pipeline's write-backs, what the core owes and the bound on its recorded waits
   staying as they were. -/
module

public import proofs.«01_k».proof.Proof.Regions

@[expose] public section

noncomputable section

namespace Cert.Proof.Ker

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 3) (Elt F) ℕ UU ℕ

section Rec

variable (V : Dev nD → Valuation τ sig (Elt F)) (O : Dev nD → CellTallies nD τ sig (HIx 3)) (b : ℕ)

/-- What core `c` owes, its recorded waits at levels at most `b`. -/
def owesBelow (c : Dev nD) : sProp 𝕄 :=
  iprop(∃ W, ⌜(K (F := F)).WBelow (c : Thread nD τ) W b⌝ ∗ owes (c : Thread nD τ) (O c) W)

/-- Every unscoped buffer of core `c` held at `W`. -/
abbrev heldAll (c : Dev nD) (W : Valuation τ sig (Elt F)) : sProp 𝕄 :=
  StableHlo.held (c : Thread nD τ) (Pipeline.ucRefs τ sig) W

/-- The launch facts of the four TensorCore calls. -/
theorem kits (p : Fin 4) : Pipeline.LaunchFacts (nD := nD) (τ := τ) cfgs p :=
  match p with
  | ⟨0, _⟩ => launch0
  | ⟨1, _⟩ => launch4
  | ⟨2, _⟩ => launch5
  | ⟨3, _⟩ => launch6

/-- The bodies of the four TensorCore calls do what their records say. -/
theorem bodies (p : Fin 4) (c : Dev nD) : Pipeline.BodyObligationLoose (pdats V O b p c) (defs₀ (F := F)) 𝒱₀ none Set.univ :=
  match p with
  | ⟨0, _⟩ => (body0 V O b c).loose
  | ⟨1, _⟩ => (body4 V O b c).loose
  | ⟨2, _⟩ => (body5 V O b c).loose
  | ⟨3, _⟩ => (body6 V O b c).loose

/-- The scratch space left over by the first TensorCore call. -/
theorem rest0 (c : Dev nD) : (Pipeline.scopedRest spec0 c : sProp 𝕄) = Pipeline.scopedRest (Pipeline.pin (pcfgs (F := F)) adm 0).spec c := rfl
/-- The scratch space left over by the first projection. -/
theorem rest4 (c : Dev nD) : (Pipeline.scopedRest spec4 c : sProp 𝕄) = Pipeline.scopedRest (Pipeline.pin (pcfgs (F := F)) adm 1).spec c := rfl
/-- The scratch space left over by the second projection. -/
theorem rest5 (c : Dev nD) : (Pipeline.scopedRest spec5 c : sProp 𝕄) = Pipeline.scopedRest (Pipeline.pin (pcfgs (F := F)) adm 2).spec c := rfl
/-- The scratch space left over by the third projection. -/
theorem rest6 (c : Dev nD) : (Pipeline.scopedRest spec6 c : sProp 𝕄) = Pipeline.scopedRest (Pipeline.pin (pcfgs (F := F)) adm 3).spec c := rfl

/-- No call keeps anything between its steps. -/
theorem pdats_Φ (p : Fin 4) (c : Dev nD) (t) :
    (pdats V O b p c).Φ t = Pipeline.scopedRest (Pipeline.pin (pcfgs (F := F)) adm p).spec c := by
  match p with
  | ⟨0, _⟩ => exact Eq.trans (show (pdats V O b 0 c).Φ t = Pipeline.scopedRest spec0 c from rfl) (rest0 c)
  | ⟨1, _⟩ => exact Eq.trans (show (pdats V O b 1 c).Φ t = Pipeline.scopedRest spec4 c from rfl) (rest4 c)
  | ⟨2, _⟩ => exact Eq.trans (show (pdats V O b 2 c).Φ t = Pipeline.scopedRest spec5 c from rfl) (rest5 c)
  | ⟨3, _⟩ => exact Eq.trans (show (pdats V O b 3 c).Φ t = Pipeline.scopedRest spec6 c from rfl) (rest6 c)

/-- What the thread owes is the same at each step. -/
theorem pdats_owed (p : Fin 4) (c : Dev nD) (t) : (pdats V O b p c).owed t = O c :=
  match p with
  | ⟨0, _⟩ => rfl
  | ⟨1, _⟩ => rfl
  | ⟨2, _⟩ => rfl
  | ⟨3, _⟩ => rfl

/-- So are the waits that are recorded. -/
theorem pdats_recorded (p : Fin 4) (c : Dev nD) (t) : (pdats V O b p c).recorded t = below (F := F) c b :=
  match p with
  | ⟨0, _⟩ => rfl
  | ⟨1, _⟩ => rfl
  | ⟨2, _⟩ => rfl
  | ⟨3, _⟩ => rfl

/-- Every window is held whole. -/
theorem pdats_q (p : Fin 4) (c : Dev nD) (w) : (pdats V O b p c).q w = fullShare :=
  match p with
  | ⟨0, _⟩ => rfl
  | ⟨1, _⟩ => rfl
  | ⟨2, _⟩ => rfl
  | ⟨3, _⟩ => rfl

/-- What each window's array holds at the start of its call. -/
theorem pdats_A (p : Fin 4) (c : Dev nD) (w) :
    (pdats V O b p c).arrAt w 0 = V c (Proc.devRef .tc (Pipeline.arrRef (Pipeline.pin (pcfgs (F := F)) adm p).spec w)) :=
  match p with
  | ⟨0, _⟩ => rfl
  | ⟨1, _⟩ => rfl
  | ⟨2, _⟩ => rfl
  | ⟨3, _⟩ => rfl

/-- No call has prefetched scalars. -/
theorem pcfgs_pre (p : Fin 4) : (pcfgs (F := F) p).pre.K = 0 := rfl

/-- The buffers after pipeline `p`'s region, entered at `V c`. -/
def left (p : Fin 4) (c : Dev nD) : Valuation τ sig (Elt F) := Pipeline.afterRegion (pdats V O b p c) (V c)

/-- No call waits for a handshake. -/
theorem waits_none (p : Fin 4) (c : Dev nD) (x) (hx : x ∈ (Pipeline.pin (pcfgs (F := F)) adm p).waitPairs (none : HIx 3)) : x.2 = none := by
  obtain ⟨w, s, rfl⟩ := hx
  rfl

set_option backward.isDefEq.respectTransparency.types false in
/-- Pipeline `p`'s region, over every unscoped buffer. -/
def reg (p : Fin 4) (hO : ∀ c g, O c g none = 0) :
    Pipeline.RegionSeg (pcfgs (F := F)) adm (pdats V O b) none (defs₀ (F := F)) 𝒱₀ (K (F := F)).L (K (F := F)).lev p where
  win := (kits p).win.to₀
  block_pos := (kits p).block_pos
  stage_whole := (kits p).stage_whole
  K := PEmpty
  osem k := k.elim
  ho := Pipeline.OwnSemFacts.none _
  hbody c := bodies V O b p c
  hwaits c := Pipeline.cellsWaits_intro _ _ _ p c fun w s t => by
    rw [pdats_owed]
    exact (K (F := F)).mayWait_none _ (hO c)
  pre c := iprop(heldAll c (V c) ∗ owesBelow O b c)
  post c := iprop(heldAll c (left V O b p c) ∗ owesBelow O b c)
  X _ := BI.emp
  Y _ := BI.emp
  Z c := StableHlo.held (c : Thread nD τ) (Pipeline.ucRefs τ sig \ Pipeline.arrRefs (pcfgs (F := F) p).spec) (V c)
  hentry c := by
    have hS : Pipeline.arrRefs (pcfgs (F := F) p).spec ⊆ Pipeline.ucRefs τ sig :=
      Pipeline.arrRefs_sub_ucRefs _ (kits p).win.arr_unscoped
    rw [Pipeline.ownSems0_none, Pipeline.prefHeld_of_none _ rfl, heldAll, StableHlo.held_sub_split (c : Thread nD τ) hS (V c),
      ← Pipeline.arrays_held (pcfgs (F := F)) adm (pdats V O b) p (kits p).toP c ((pdats V O b p c).share_full fun w => pdats_q V O b p c w)
        ((pdats V O b p c).arrAt · 0) (V c) (fun w => pdats_A V O b p c w)]
    iintro ⟨⟨⟨Ha, Hr⟩, HO⟩, -, -⟩
    imodintro
    isplitl [Ha]; · iexact Ha
    isplitr; · iempintro
    isplitl [HO]
    · unfold Pipeline.Dat.owesAt Pipeline.owesWithin Pipeline.Dat.bound owesBelow
      rw [pdats_owed, pdats_recorded]
      icases HO with ⟨%W, %hW, HO⟩; iexists W; isplitr; · ipureintro; exact fun x hx => Or.inl (hW x hx)
      iexact HO
    isplitr; · iempintro
    iexact Hr
  hin c := by
    rw [pdats_Φ]
    iintro ⟨-, -, Hr⟩; iexact Hr
  hout c := by
    rw [Pipeline.ownSems0_none, pdats_Φ]
    iintro Hr
    isplitr; · iempintro
    isplitr; · iempintro
    iexact Hr
  hexit c := by
    have hS : Pipeline.arrRefs (pcfgs (F := F) p).spec ⊆ Pipeline.ucRefs τ sig :=
      Pipeline.arrRefs_sub_ucRefs _ (kits p).win.arr_unscoped
    rw [heldAll, StableHlo.held_sub_split (c : Thread nD τ) hS (left V O b p c),
      StableHlo.held_congr (c : Thread nD τ) (S := Pipeline.ucRefs τ sig \ Pipeline.arrRefs (pcfgs (F := F) p).spec) (V := left V O b p c) (V' := V c)
        (Pipeline.afterRegion_off (pdats V O b p c) (V c) _),
      ← Pipeline.arrays_held (pcfgs (F := F)) adm (pdats V O b) p (kits p).toP c ((pdats V O b p c).share_full fun w => pdats_q V O b p c w)
        ((pdats V O b p c).arrAt · (Pipeline.pin (pcfgs (F := F)) adm p).N) (left V O b p c)
        (fun w => (Pipeline.afterRegion_arr (pdats V O b p c) (V c) (kits p).win.arr_inj w).symm)]
    iintro ⟨Ha, HO, -, Hr⟩
    imodintro
    isplitl [Ha Hr]
    · isplitl [Ha]; · iexact Ha
      iexact Hr
    unfold Pipeline.Dat.owesAt Pipeline.owesWithin Pipeline.Dat.bound owesBelow
    rw [pdats_owed, pdats_recorded]
    icases HO with ⟨%W, %hW, HO⟩; iexists W; isplitr
    · ipureintro
      intro x hx
      rcases hW hx with h | h
      · exact h
      · rw [waits_none p c x h]; exact Nat.zero_le _
    iexact HO

/-- The calls' semaphore cells are distinct. -/
theorem cellOf_injP : Function.Injective (Pipeline.cellOf (nD := nD) (τ := τ) (Pipeline.pin (pcfgs (F := F)) adm)) := cellOf_inj

/-- Pipeline `p`'s region as a step of @main on the TensorCore. -/
theorem reg_wp [∀ e, Nonempty (Elt F e)] (p : Fin 4) (hO : ∀ c g, O c g none = 0) (c : Dev nD) {α : Type}
    (k : PUnit → Prog (TpuEff nD τ sig (Elt F) (SparseCore.Sig (ΛP (F := F)) 3) .tc) α) (Q : α → sProp 𝕄) :
    iprop(boundary (c : Thread nD τ) ∗ (heldAll c (V c) ∗ owesBelow O b c) ∗ levAts (K (F := F)).L (K (F := F)).lev
        ∗ Pipeline.cellsGhost (Pipeline.pin (pcfgs (F := F)) adm) EP p c ∗ Pipeline.toksInit (Pipeline.pin (pcfgs (F := F)) adm) EP p c
        ∗ (iprop(boundary (c : Thread nD τ) ∗ heldAll c (left V O b p c) ∗ owesBelow O b c)
            -∗ wp frame (wpE ((K (F := F)).defs D) 𝒱 (c : Thread nD τ) none) Set.univ (k ⟨⟩) Q))
      ⊢ wp frame (wpE ((K (F := F)).defs D) 𝒱 (c : Thread nD τ) none) Set.univ
          (.op (.customCall (SparseCore.inner (Pipeline.entry p)) ()) k) Q := by
  have h := Pipeline.RegionSeg.wp (pcfgs (F := F)) adm (pdats V O b) none cellOf_injP EP (defs₀ (F := F)) 𝒱₀ (K (F := F)).L (K (F := F)).lev
    (reg V O b p hO) c none (fun _ h => nomatch h) (fun _ => (.ret PUnit.unit : Prog (TpuEff nD τ sig (Elt F) (ΛP (F := F)) .tc) PUnit))
    (fun _ => iprop(boundary (c : Thread nD τ) ∗ heldAll c (left V O b p c) ∗ owesBelow O b c))
  have h2 := (K (F := F)).wp_liftProg D 𝒱 (c : Thread nD τ) Set.univ none
    (Prog.op (.customCall (Pipeline.entry p) ()) fun _ => (.ret PUnit.unit : Prog (TpuEff nD τ sig (Elt F) (ΛP (F := F)) .tc) PUnit))
    (fun _ => iprop(boundary (c : Thread nD τ) ∗ heldAll c (left V O b p c) ∗ owesBelow O b c))
  have e : (Prog.op (.customCall (SparseCore.inner (Pipeline.entry p)) ()) k : Prog (TpuEff nD τ sig (Elt F) (SparseCore.Sig (ΛP (F := F)) 3) .tc) α)
      = (SparseCore.liftProg (Q := 3) (Prog.op (.customCall (Pipeline.entry p) ()) fun _ => (.ret PUnit.unit : Prog (TpuEff nD τ sig (Elt F) (ΛP (F := F)) .tc) PUnit))) >>= k := rfl
  rw [e, wp_bind]
  iintro ⟨Hb, Hpre, #HL, Hg, Ht, Hk⟩
  iapply (wp_wand frame (wpE ((K (F := F)).defs D) 𝒱 (c : Thread nD τ) none) Set.univ) $$ [Hb Hpre Hg Ht]
  · iapply h2
    iapply h
    isplitr
    · iintro H
      rw [wp_ret]
      imodintro
      iexact H
    isplitl [Hb]; · iexact Hb
    isplitl [Hpre]; · iapply (show iprop(heldAll c (V c) ∗ owesBelow O b c) ⊢ (reg V O b p hO).pre c from Entails.of_eq rfl); iexact Hpre
    isplitr; · iexact HL
    isplitl [Hg]; · iexact Hg
    iexact Ht
  · iintro %_ H
    iapply Hk
    iexact H

end Rec

end Cert.Proof.Ker

end
-- ==== Proof.Line.lean ====
/- @main as the calls and the straight lines of host operations between them, and what every TensorCore buffer holds
   after each: the contents a call finds are those its line leaves. -/
module

public import proofs.«01_k».proof.Proof.Pay
public import proofs.«01_k».proof.Proof.RegionRec

@[expose] public section

noncomputable section

namespace Cert.Proof.Ker

open Cert.KernelIdeal Cert.KernelIdeal.Gen
open Idealize.ShloMosaic
open Idealize.ShloMosaic.StableHlo
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The host operations between the calls -/

/-- The host operations before the first dense call. -/
abbrev opsA : List (HloOp τ sig (Elt F)) :=
  [ reshape main_arg0 main_v0 (rfl : (.i32 : EltTy) = .i32) shapeCasts_S1024x200_S204800,
    reshape main_arg1 main_v1 (rfl : (.i32 : EltTy) = .i32) shapeCasts_S1024x200_S204800,
    nullary main_c (constantI S_ 32 0#32),
    TRef.unary (TRef.of (T := ⟨S_, .i32⟩) main_c) main_call0.v0 (sitofp .f32),
    TRef.binary (TRef.of (T := ⟨S301x128, .f32⟩) main_arg3) main_call0.v0 main_call0.v1 (fun x v => pad S304x128 ![0, 0] ![3, 0] ![0, 0] x v pads_S301x128_S304x128_030_000 h_S_),
    unary main_v2 main_v3 ((truncf .bf16 · bitsLt_bf16_f32) : (⟨S304x128, .f32⟩ : BufTy).Contents (Elt F) → (⟨S304x128, .bf16⟩ : BufTy).Contents (Elt F)),
    unary main_arg4 main_v4 ((truncf .bf16 · bitsLt_bf16_f32) : (⟨S256x1024, .f32⟩ : BufTy).Contents (Elt F) → (⟨S256x1024, .bf16⟩ : BufTy).Contents (Elt F)) ]
/-- The host operations before the first gather. -/
abbrev opsB : List (HloOp τ sig (Elt F)) :=
  [ nullary main_c_0 (constantI S_ 32 0#32),
    unaryIndexed main_v0 ![main_c_0] ⟨S_, .i32⟩ main_v6 ((fun x i => Host.dynamicSlice S16384 x (fun k => (i k (Shape.Idx.first h_S_)).toInt) sliceFits_S204800_S16384) : (⟨S204800, .i32⟩ : BufTy).Contents (Elt F) → (Fin 1 → (⟨S_, .i32⟩ : BufTy).Contents (Elt F)) → (⟨S16384, .i32⟩ : BufTy).Contents (Elt F)),
    reshape main_v6 main_v7 (rfl : (.i32 : EltTy) = .i32) shapeCasts_S16384_S32x4x128 ]
/-- The host operations before the second gather. -/
abbrev opsC : List (HloOp τ sig (Elt F)) :=
  [ nullary main_c_1 (constantI S_ 32 16384#32),
    unaryIndexed main_v0 ![main_c_1] ⟨S_, .i32⟩ main_v9 ((fun x i => Host.dynamicSlice S49152 x (fun k => (i k (Shape.Idx.first h_S_)).toInt) sliceFits_S204800_S49152) : (⟨S204800, .i32⟩ : BufTy).Contents (Elt F) → (Fin 1 → (⟨S_, .i32⟩ : BufTy).Contents (Elt F)) → (⟨S49152, .i32⟩ : BufTy).Contents (Elt F)),
    reshape main_v9 main_v10 (rfl : (.i32 : EltTy) = .i32) shapeCasts_S49152_S32x12x128 ]
/-- The host operations before the third gather. -/
abbrev opsD : List (HloOp τ sig (Elt F)) :=
  [ nullary main_c_2 (constantI S_ 32 65536#32),
    unaryIndexed main_v0 ![main_c_2] ⟨S_, .i32⟩ main_v12 ((fun x i => Host.dynamicSlice S139264 x (fun k => (i k (Shape.Idx.first h_S_)).toInt) sliceFits_S204800_S139264) : (⟨S204800, .i32⟩ : BufTy).Contents (Elt F) → (Fin 1 → (⟨S_, .i32⟩ : BufTy).Contents (Elt F)) → (⟨S139264, .i32⟩ : BufTy).Contents (Elt F)),
    reshape main_v12 main_v13 (rfl : (.i32 : EltTy) = .i32) shapeCasts_S139264_S32x34x128 ]
/-- The host operations before the first stretch of the output. -/
abbrev opsE : List (HloOp τ sig (Elt F)) :=
  [ nullary main_c_3 (constantI S_ 32 0#32),
    unaryIndexed main_v1 ![main_c_3] ⟨S_, .i32⟩ main_v15 ((fun x i => Host.dynamicSlice S16384 x (fun k => (i k (Shape.Idx.first h_S_)).toInt) sliceFits_S204800_S16384) : (⟨S204800, .i32⟩ : BufTy).Contents (Elt F) → (Fin 1 → (⟨S_, .i32⟩ : BufTy).Contents (Elt F)) → (⟨S16384, .i32⟩ : BufTy).Contents (Elt F)),
    reshape main_v15 main_v16 (rfl : (.i32 : EltTy) = .i32) shapeCasts_S16384_S4x1x4096 ]
/-- The host operations before the second stretch of the output. -/
abbrev opsF : List (HloOp τ sig (Elt F)) :=
  [ nullary main_c_4 (constantI S_ 32 16384#32),
    unaryIndexed main_v1 ![main_c_4] ⟨S_, .i32⟩ main_v18 ((fun x i => Host.dynamicSlice S49152 x (fun k => (i k (Shape.Idx.first h_S_)).toInt) sliceFits_S204800_S49152) : (⟨S204800, .i32⟩ : BufTy).Contents (Elt F) → (Fin 1 → (⟨S_, .i32⟩ : BufTy).Contents (Elt F)) → (⟨S49152, .i32⟩ : BufTy).Contents (Elt F)),
    reshape main_v18 main_v19 (rfl : (.i32 : EltTy) = .i32) shapeCasts_S49152_S12x1x4096,
    unary main_v17 main_v20 id ]
/-- The host operations before the last stretch of the output. -/
abbrev opsG : List (HloOp τ sig (Elt F)) :=
  [ nullary main_c_5 (constantI S_ 32 65536#32),
    unaryIndexed main_v1 ![main_c_5] ⟨S_, .i32⟩ main_v21 ((fun x i => Host.dynamicSlice S139264 x (fun k => (i k (Shape.Idx.first h_S_)).toInt) sliceFits_S204800_S139264) : (⟨S204800, .i32⟩ : BufTy).Contents (Elt F) → (Fin 1 → (⟨S_, .i32⟩ : BufTy).Contents (Elt F)) → (⟨S139264, .i32⟩ : BufTy).Contents (Elt F)),
    reshape main_v21 main_v22 (rfl : (.i32 : EltTy) = .i32) shapeCasts_S139264_S34x1x4096,
    unary main_v20 main_v23 id ]
/-- The host operations after the last call. -/
abbrev opsH : List (HloOp τ sig (Elt F)) :=
  [ reshape main_v23 main_v24 (rfl : (.f32 : EltTy) = .f32) shapeCasts_S204800x1024_S1024x200x1024 ]

/-- All the lines. -/
abbrev lines : Fin 8 → List (HloOp τ sig (Elt F)) := fun
  | 0 => opsA | 1 => opsB | 2 => opsC | 3 => opsD | 4 => opsE | 5 => opsF | 6 => opsG | 7 => opsH

/-- What a line writes. -/
abbrev written : Fin 8 → List (Ref sig .tc) := fun
  | 0 => [main_v0, main_v1, main_c, main_call0_v0, main_v2, main_v3, main_v4] | 1 => [main_c_0, main_v6, main_v7] | 2 => [main_c_1, main_v9, main_v10]
  | 3 => [main_c_2, main_v12, main_v13] | 4 => [main_c_3, main_v15, main_v16] | 5 => [main_c_4, main_v18, main_v19, main_v20]
  | 6 => [main_c_5, main_v21, main_v22, main_v23] | 7 => [main_v24]

/-- Every host operation names TensorCore buffers only, -/
theorem lines_sub (i : Fin 8) : (lines (F := F) i).Forall fun op => op.bufs ⊆ tcRefs τ sig :=
  match i with
  | 0 => ⟨reshape_bufs_sub .., reshape_bufs_sub .., nullary_bufs_sub .., unary_bufs_sub .., binary_bufs_sub .., unary_bufs_sub .., unary_bufs_sub ..⟩
  | 1 => ⟨nullary_bufs_sub .., unaryIndexed_bufs_sub .., reshape_bufs_sub ..⟩
  | 2 => ⟨nullary_bufs_sub .., unaryIndexed_bufs_sub .., reshape_bufs_sub ..⟩
  | 3 => ⟨nullary_bufs_sub .., unaryIndexed_bufs_sub .., reshape_bufs_sub ..⟩
  | 4 => ⟨nullary_bufs_sub .., unaryIndexed_bufs_sub .., reshape_bufs_sub ..⟩
  | 5 => ⟨nullary_bufs_sub .., unaryIndexed_bufs_sub .., reshape_bufs_sub .., unary_bufs_sub ..⟩
  | 6 => ⟨nullary_bufs_sub .., unaryIndexed_bufs_sub .., reshape_bufs_sub .., unary_bufs_sub ..⟩
  | 7 => reshape_bufs_sub ..

/-- and allocates nothing; -/
theorem lines_fresh (i : Fin 8) : (lines (F := F) i).Forall fun op => op.fresh = ∅ :=
  match i with
  | 0 => ⟨rfl, rfl, rfl, rfl, rfl, rfl, rfl⟩
  | 1 => ⟨rfl, rfl, rfl⟩
  | 2 => ⟨rfl, rfl, rfl⟩
  | 3 => ⟨rfl, rfl, rfl⟩
  | 4 => ⟨rfl, rfl, rfl⟩
  | 5 => ⟨rfl, rfl, rfl, rfl⟩
  | 6 => ⟨rfl, rfl, rfl, rfl⟩
  | 7 => rfl

/-- and a line keeps every buffer it does not write. -/
theorem line_keeps (i : Fin 8) (V : Valuation τ sig (Elt F)) {r : Ref sig .tc} (hr : r ∉ written i) :
    after (lines i) V (Proc.devRef .tc r) = V (Proc.devRef .tc r) :=
  after_of_writes_sub (lines i) V (by
    match i with
    | 0 => simp [lines, written, main_call0]
    | 1 => simp [lines, written]
    | 2 => simp [lines, written]
    | 3 => simp [lines, written]
    | 4 => simp [lines, written]
    | 5 => simp [lines, written]
    | 6 => simp [lines, written]
    | 7 => simp [lines, written]) hr

set_option maxRecDepth 8192 in
/-- @main, its lines gathered. -/
theorem main_eq (d : Dev nD) : main (F := F) d = (seq (lines 0) >>= fun _ => Prog.op (.customCall (SparseCore.inner (Pipeline.entry 0)) ()) fun _ =>
    seq (lines 1) >>= fun _ => sc.run d 0 >>= fun _ => seq (lines 2) >>= fun _ => sc.run d 1 >>= fun _ => seq (lines 3) >>= fun _ => sc.run d 2 >>= fun _ =>
    seq (lines 4) >>= fun _ => Prog.op (.customCall (SparseCore.inner (Pipeline.entry 1)) ()) fun _ =>
    seq (lines 5) >>= fun _ => Prog.op (.customCall (SparseCore.inner (Pipeline.entry 2)) ()) fun _ =>
    seq (lines 6) >>= fun _ => Prog.op (.customCall (SparseCore.inner (Pipeline.entry 3)) ()) fun _ => seq (lines 7) >>= fun _ => pure ⟨⟩) := rfl

/-! ## What the buffers hold after each step -/

variable (m : (ℓ : Loc nD τ sig) → Buf (Elt F) ℓ)

/-- The TensorCore's debts before the SparseCore calls, at each segment of host code. -/
abbrev owedAt (n : ℕ) (d : Dev nD) : CellTallies nD τ sig (HIx 3) := (K (F := F)).Otc d n
/-- How many cells of the handshakes lie below the n-th segment of host code. -/
abbrev levelAt (n : ℕ) : ℕ := 8 * SparseCore.Cfg.Blocks.fst (Q := 3) (N := 3) n

/-- At launch. -/
def W0 (d : Dev nD) : Valuation τ sig (Elt F) := fun b => m (d, b)
/-- Before the first TensorCore call. -/
def W1 (d : Dev nD) : Valuation τ sig (Elt F) := after (lines 0) (W0 m d)
/-- After the first TensorCore call, the column of means. -/
def W2 (d : Dev nD) : Valuation τ sig (Elt F) := left (W1 m) (owedAt (F := F) 0) (levelAt 0) 0 d
/-- Before the first gather. -/
def W3 (d : Dev nD) : Valuation τ sig (Elt F) := after (lines 1) (W2 m d)
/-- After the first gather. -/
def W4 (d : Dev nD) : Valuation τ sig (Elt F) :=
  Function.update (W3 m d) (Proc.devRef .tc main_v8) (gathered (n := 4) (m := 128) rfl (W3 m d (Proc.devRef .tc main_v7)) (W3 m d (Proc.devRef .tc main_arg2)))
/-- Before the second gather. -/
def W5 (d : Dev nD) : Valuation τ sig (Elt F) := after (lines 2) (W4 m d)
/-- After the second gather. -/
def W6 (d : Dev nD) : Valuation τ sig (Elt F) :=
  Function.update (W5 m d) (Proc.devRef .tc main_v11) (gathered (n := 12) (m := 384) rfl (W5 m d (Proc.devRef .tc main_v10)) (W5 m d (Proc.devRef .tc main_arg2)))
/-- Before the third gather. -/
def W7 (d : Dev nD) : Valuation τ sig (Elt F) := after (lines 3) (W6 m d)
/-- After the third gather. -/
def W8 (d : Dev nD) : Valuation τ sig (Elt F) :=
  Function.update (W7 m d) (Proc.devRef .tc main_v14) (gathered (n := 34) (m := 1088) rfl (W7 m d (Proc.devRef .tc main_v13)) (W7 m d (Proc.devRef .tc main_arg2)))
/-- Before the first projection. -/
def W9 (d : Dev nD) : Valuation τ sig (Elt F) := after (lines 4) (W8 m d)
/-- After the first projection. -/
def W10 (d : Dev nD) : Valuation τ sig (Elt F) := left (W9 m) (owedAt (F := F) 3) (levelAt 3) 1 d
/-- Before the second projection. -/
def W11 (d : Dev nD) : Valuation τ sig (Elt F) := after (lines 5) (W10 m d)
/-- After the second projection. -/
def W12 (d : Dev nD) : Valuation τ sig (Elt F) := left (W11 m) (owedAt (F := F) 3) (levelAt 3) 2 d
/-- Before the third projection. -/
def W13 (d : Dev nD) : Valuation τ sig (Elt F) := after (lines 6) (W12 m d)
/-- After the third projection. -/
def W14 (d : Dev nD) : Valuation τ sig (Elt F) := left (W13 m) (owedAt (F := F) 3) (levelAt 3) 3 d
/-- At the end. -/
def W15 (d : Dev nD) : Valuation τ sig (Elt F) := after (lines 7) (W14 m d)

/-- The contents at the start of each SparseCore call. -/
def Vq : Fin 3 → Dev nD → Valuation τ sig (Elt F) := fun
  | 0 => W3 m | 1 => W5 m | 2 => W7 m

/-- The results of each dense call's pipeline. -/
abbrev outs : Fin 4 → Ref sig .tc := fun
  | 0 => main_v5 | 1 => main_v17 | 2 => main_v20 | 3 => main_v23

/-- A dense call keeps every buffer but its result. -/
theorem left_keeps (V : Dev nD → Valuation τ sig (Elt F)) (O : Dev nD → CellTallies nD τ sig (HIx 3)) (b : ℕ) (p : Fin 4) (d : Dev nD) {r : Ref sig .tc} (hr : r ≠ outs p) :
    left V O b p d (Proc.devRef .tc r) = V d (Proc.devRef .tc r) :=
  Pipeline.afterRegion_keeps _ _ (kits p).win.arr_inj (fun w => pdats_A V O b p d w) r (by
    match p with
    | 0 => exact fun w => match w with | 0 => fun _ => rfl | 1 => fun e => absurd e.symm hr
    | 1 => exact fun w => match w with | 0 => fun _ => rfl | 1 => fun _ => rfl | 2 => fun _ => rfl | 3 => fun _ => rfl | 4 => fun _ => rfl | 5 => fun e => absurd e.symm hr
    | 2 => exact fun w => match w with | 0 => fun _ => rfl | 1 => fun _ => rfl | 2 => fun _ => rfl | 3 => fun _ => rfl | 4 => fun _ => rfl | 5 => fun e => absurd e.symm hr
    | 3 => exact fun w => match w with | 0 => fun _ => rfl | 1 => fun _ => rfl | 2 => fun _ => rfl | 3 => fun _ => rfl | 4 => fun _ => rfl | 5 => fun e => absurd e.symm hr)

end Cert.Proof.Ker

end
-- ==== Proof.Main.lean ====
/- @main on the TensorCore, step by step: each line of host operations, each dense call, each SparseCore call, from what
   the buffers held to what they hold after; and the whole program's run from a launch memory. -/
module

public import proofs.«01_k».proof.Proof.Line

@[expose] public section

noncomputable section

namespace Cert.Proof.Ker

open Cert.KernelIdeal Cert.KernelIdeal.Gen
open Idealize.ShloMosaic Idealize.ShloMosaic.TcCoe
open Idealize.ShloMosaic.StableHlo
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

/-- The TensorCore's own buffers. -/
abbrev ucs : Finset (DevRef τ sig) := Pipeline.ucRefs τ sig

/-- Three buffers out of those held, and back with the third at new contents. -/
theorem held_swap (d : Dev nD) (V : Valuation τ sig (Elt F)) (b1 b2 b3 : DevRef τ sig) (h1 : b1 ∈ ucs) (h2 : b2 ∈ ucs) (h3 : b3 ∈ ucs)
    (h12 : b2 ≠ b1) (h13 : b3 ≠ b1) (h23 : b3 ≠ b2) :
    (heldAll d V : sProp 𝕄) ⊢ iprop((((d, b1) : Loc nD τ sig) ↦{fullShare} V b1) ∗ (((d, b2) : Loc nD τ sig) ↦{fullShare} V b2) ∗ (((d, b3) : Loc nD τ sig) ↦{fullShare} V b3)
      ∗ ∀ G, ((((d, b1) : Loc nD τ sig) ↦{fullShare} V b1) ∗ (((d, b2) : Loc nD τ sig) ↦{fullShare} V b2) ∗ (((d, b3) : Loc nD τ sig) ↦{fullShare} G))
          -∗ heldAll d (Function.update V b3 G)) := by
  have hsplit (V : Valuation τ sig (Elt F)) : (heldAll d V : sProp 𝕄) = iprop((((d, b1) : Loc nD τ sig) ↦{fullShare} V b1) ∗ (((d, b2) : Loc nD τ sig) ↦{fullShare} V b2)
      ∗ (((d, b3) : Loc nD τ sig) ↦{fullShare} V b3) ∗ bigSep (((ucs.erase b1).erase b2).erase b3) fun b => (((d, b) : Loc nD τ sig) ↦{fullShare} V b)) := by
    show bigSep ucs (fun b => (((d, b) : Loc nD τ sig) ↦{fullShare} V b)) = _
    rw [SparseCore.bigSep_erase' h1, SparseCore.bigSep_erase' (Finset.mem_erase.2 ⟨h12, h2⟩),
      SparseCore.bigSep_erase' (Finset.mem_erase.2 ⟨h23, Finset.mem_erase.2 ⟨h13, h3⟩⟩)]
  rw [hsplit]
  iintro ⟨H1, H2, H3, Hr⟩
  isplitl [H1]; · iexact H1
  isplitl [H2]; · iexact H2
  isplitl [H3]; · iexact H3
  iintro %G ⟨H1, H2, H3⟩
  have hrest : (bigSep (((ucs.erase b1).erase b2).erase b3) fun b => (((d, b) : Loc nD τ sig) ↦{fullShare} Function.update V b3 G b))
      = (bigSep (((ucs.erase b1).erase b2).erase b3) fun b => (((d, b) : Loc nD τ sig) ↦{fullShare} V b) : sProp 𝕄) :=
    bigSep_congr fun b hb => by rw [Function.update_of_ne (Finset.ne_of_mem_erase hb)]
  rw [hsplit, hrest, Function.update_of_ne (Ne.symm h13), Function.update_of_ne (Ne.symm h23), Function.update_self]
  isplitl [H1]; · iexact H1
  isplitl [H2]; · iexact H2
  isplitl [H3]; · iexact H3
  iexact Hr

variable (m : (ℓ : Loc nD τ sig) → Buf (Elt F) ℓ) (ρ : Dev nD → PrngReg)

/-- What the first gather's handshakes carry out is its three arrays; -/
theorem st_eq0 (V : Fin 3 → Dev nD → Valuation τ sig (Elt F)) (d : Dev nD) :
    (bigSep Finset.univ fun c : Fin ((K (F := F)).nCore 0) => (P V).st 0 d c)
      = (iprop(((tcT d).loc main_v7 ↦{fullShare} at1 V d main_v7) ∗ ((tcT d).loc main_arg2 ↦{fullShare} at1 V d main_arg2) ∗ ((tcT d).loc main_v8 ↦{fullShare} at1 V d main_v8)) : sProp 𝕄) :=
  tile_all _ _ _ _ _
/-- What the first gather hands back, written out. -/
theorem dn_eq0 (V : Fin 3 → Dev nD → Valuation τ sig (Elt F)) (d : Dev nD) :
    (bigSep Finset.univ fun c : Fin ((K (F := F)).nCore 0) => (P V).dn 0 d c)
      = (iprop(((tcT d).loc main_v7 ↦{fullShare} at1 V d main_v7) ∗ ((tcT d).loc main_arg2 ↦{fullShare} at1 V d main_arg2) ∗ ((tcT d).loc main_v8 ↦{fullShare} got1 V d)) : sProp 𝕄) :=
  tile_all _ _ _ _ _
/-- so for the second; -/
theorem st_eq1 (V : Fin 3 → Dev nD → Valuation τ sig (Elt F)) (d : Dev nD) :
    (bigSep Finset.univ fun c : Fin ((K (F := F)).nCore 1) => (P V).st 1 d c)
      = (iprop(((tcT d).loc main_v10 ↦{fullShare} at2 V d main_v10) ∗ ((tcT d).loc main_arg2 ↦{fullShare} at2 V d main_arg2) ∗ ((tcT d).loc main_v11 ↦{fullShare} at2 V d main_v11)) : sProp 𝕄) :=
  tile_all _ _ _ _ _
/-- What the second gather hands back, written out. -/
theorem dn_eq1 (V : Fin 3 → Dev nD → Valuation τ sig (Elt F)) (d : Dev nD) :
    (bigSep Finset.univ fun c : Fin ((K (F := F)).nCore 1) => (P V).dn 1 d c)
      = (iprop(((tcT d).loc main_v10 ↦{fullShare} at2 V d main_v10) ∗ ((tcT d).loc main_arg2 ↦{fullShare} at2 V d main_arg2) ∗ ((tcT d).loc main_v11 ↦{fullShare} got2 V d)) : sProp 𝕄) :=
  tile_all _ _ _ _ _
/-- and the third. -/
theorem st_eq2 (V : Fin 3 → Dev nD → Valuation τ sig (Elt F)) (d : Dev nD) :
    (bigSep Finset.univ fun c : Fin ((K (F := F)).nCore 2) => (P V).st 2 d c)
      = (iprop(((tcT d).loc main_v13 ↦{fullShare} at3 V d main_v13) ∗ ((tcT d).loc main_arg2 ↦{fullShare} at3 V d main_arg2) ∗ ((tcT d).loc main_v14 ↦{fullShare} at3 V d main_v14)) : sProp 𝕄) :=
  tile_all _ _ _ _ _
/-- What the third gather hands back, written out. -/
theorem dn_eq2 (V : Fin 3 → Dev nD → Valuation τ sig (Elt F)) (d : Dev nD) :
    (bigSep Finset.univ fun c : Fin ((K (F := F)).nCore 2) => (P V).dn 2 d c)
      = (iprop(((tcT d).loc main_v13 ↦{fullShare} at3 V d main_v13) ∗ ((tcT d).loc main_arg2 ↦{fullShare} at3 V d main_arg2) ∗ ((tcT d).loc main_v14 ↦{fullShare} got3 V d)) : sProp 𝕄) :=
  tile_all _ _ _ _ _

/-! ## The steps -/

/-- A line of host operations at the head of a program. -/
theorem line_step (i : Fin 8) (d : Dev nD) (V : Valuation τ sig (Elt F)) {α : Type}
    (k : PUnit → Prog (TpuEff nD τ sig (Elt F) (SparseCore.Sig (ΛP (F := F)) 3) .tc) α) (Q : α → sProp 𝕄) :
    iprop(boundary (d : Thread nD τ) ∗ heldAll d V
        ∗ (iprop(boundary (d : Thread nD τ) ∗ heldAll d (after (lines i) V)) -∗ wp frame (wpE ((K (F := F)).defs D) 𝒱 (d : Thread nD τ) none) Set.univ (k ⟨⟩) Q))
      ⊢ wp frame (wpE ((K (F := F)).defs D) 𝒱 (d : Thread nD τ) none) Set.univ (seq (lines i) >>= k) Q := by
  iintro ⟨Hb, HV, Hk⟩
  iapply (wp_seq 𝒱 none Set.univ d ucs k (lines i) (fun op h => Pipeline.sub_ucRefs op (List.forall_iff_forall_mem.mp (lines_sub i) op h))
    (fun op h => List.forall_iff_forall_mem.mp (lines_fresh i) op h) V) $$ [Hb HV]
  · isplitl [Hb]; · iexact Hb
    iexact HV
  iexact Hk

/-- A SparseCore call at the head of a program: it lends the index lists, the table and the result's array and has them
    back, the result gathered. -/
theorem sc_step (V : Fin 3 → Dev nD → Valuation τ sig (Elt F)) (κ : GSem nD τ sig → ℕ) (d : Dev nD) (q : Fin 3) (r1 r2 r3 : Ref sig .tc)
    (h1 : Proc.devRef .tc r1 ∈ ucs) (h2 : Proc.devRef .tc r2 ∈ ucs) (h3 : Proc.devRef .tc r3 ∈ ucs) (h12 : r2 ≠ r1) (h13 : r3 ≠ r1) (h23 : r3 ≠ r2)
    (W : Valuation τ sig (Elt F)) (G : Buf (Elt F) ((tcT d).loc r3))
    (hst : (bigSep Finset.univ fun c : Fin ((K (F := F)).nCore q) => (P V).st q d c)
      = (iprop(((tcT d).loc r1 ↦{fullShare} W (Proc.devRef .tc r1)) ∗ ((tcT d).loc r2 ↦{fullShare} W (Proc.devRef .tc r2)) ∗ ((tcT d).loc r3 ↦{fullShare} W (Proc.devRef .tc r3))) : sProp 𝕄))
    (hdn : (bigSep Finset.univ fun c : Fin ((K (F := F)).nCore q) => (P V).dn q d c)
      = (iprop(((tcT d).loc r1 ↦{fullShare} W (Proc.devRef .tc r1)) ∗ ((tcT d).loc r2 ↦{fullShare} W (Proc.devRef .tc r2)) ∗ ((tcT d).loc r3 ↦{fullShare} G)) : sProp 𝕄)) {α : Type}
    (k : PUnit → Prog (TpuEff nD τ sig (Elt F) (SparseCore.Sig (ΛP (F := F)) 3) .tc) α) (Q : α → sProp 𝕄) :
    iprop((K (F := F)).ctx EH (P V) κ ∗ (K (F := F)).tcSt EH d q.val ∗ heldAll d W
        ∗ (iprop((K (F := F)).tcSt EH d (q.val + 1) ∗ heldAll d (Function.update W (Proc.devRef .tc r3) G))
            -∗ wp frame (wpE ((K (F := F)).defs D) 𝒱 (d : Thread nD τ) none) Set.univ (k ⟨⟩) Q))
      ⊢ wp frame (wpE ((K (F := F)).defs D) 𝒱 (d : Thread nD τ) none) Set.univ (sc.run d q >>= k) Q := by
  rw [wp_bind]
  iintro ⟨#Hctx, Hst, HV, Hk⟩
  ihave HV := (held_swap d W _ _ _ h1 h2 h3 (devRef_ne_of_ne h12) (devRef_ne_of_ne h13) (devRef_ne_of_ne h23)) $$ HV
  icases HV with ⟨H1, H2, H3, Hback⟩
  iapply ((K (F := F)).wp_run D 𝒱 (EH := EH) (P := P V) κ d q) $$ [Hst H1 H2 H3 Hback Hk]
  isplitr; · iexact Hctx
  isplitl [Hst]; · iexact Hst
  isplitl [H1 H2 H3]
  · rw [hst]
    isplitl [H1]; · iexact H1
    isplitl [H2]; · iexact H2
    iexact H3
  iintro ⟨Hst, Hdn⟩
  iapply Hk
  isplitl [Hst]; · iexact Hst
  iapply Hback
  ihave Hdn := (Entails.of_eq hdn) $$ Hdn
  iexact Hdn

omit [FloatOps F] in
/-- The TensorCore owes nothing under the index that names no call. -/
theorem owedAt_none (n : ℕ) (d : Dev nD) (g : GSem nD τ sig) : owedAt (F := F) n d g none = 0 := by
  by_contra h
  have := (K (F := F)).lev_of_Otc_pos (Nat.pos_of_ne_zero h)
  exact absurd this (by show ¬ (_ + 1 ≤ 0); omega)

/-- A dense call at the head of a program. -/
theorem dense_step [∀ e, Nonempty (Elt F e)] (V : Fin 3 → Dev nD → Valuation τ sig (Elt F)) (κ : GSem nD τ sig → ℕ) (d : Dev nD) (n : ℕ) (p : Fin 4) (W : Dev nD → Valuation τ sig (Elt F)) {α : Type}
    (k : PUnit → Prog (TpuEff nD τ sig (Elt F) (SparseCore.Sig (ΛP (F := F)) 3) .tc) α) (Q : α → sProp 𝕄) :
    iprop((K (F := F)).ctx EH (P V) κ ∗ (K (F := F)).tcSt EH d n ∗ boundary (d : Thread nD τ) ∗ heldAll d (W d)
        ∗ (Pipeline.cellsGhost (Pipeline.pin (pcfgs (F := F)) adm) EP p d ∗ Pipeline.toksInit (Pipeline.pin (pcfgs (F := F)) adm) EP p d)
        ∗ (iprop((K (F := F)).tcSt EH d n ∗ boundary (d : Thread nD τ) ∗ heldAll d (left W (owedAt (F := F) n) (levelAt n) p d))
            -∗ wp frame (wpE ((K (F := F)).defs D) 𝒱 (d : Thread nD τ) none) Set.univ (k ⟨⟩) Q))
      ⊢ wp frame (wpE ((K (F := F)).defs D) 𝒱 (d : Thread nD τ) none) Set.univ
          (.op (.customCall (SparseCore.inner (Pipeline.entry p)) ()) k) Q := by
  unfold SparseCore.Cfg.tcSt
  iintro ⟨#Hctx, ⟨HO, Hrest⟩, Hb, HV, ⟨Hg, Ht⟩, Hk⟩
  ihave #HL := (SparseCore.Cfg.ctx_levAts κ) $$ Hctx
  iapply (reg_wp W (owedAt (F := F) n) (levelAt n) p (fun c g => owedAt_none n c g) d k Q)
  isplitl [Hb]; · iexact Hb
  isplitl [HV HO]
  · isplitl [HV]; · iexact HV
    unfold owesBelow
    iexact HO
  isplitr; · iexact HL
  isplitl [Hg]; · iexact Hg
  isplitl [Ht]; · iexact Ht
  iintro ⟨Hb, HV, HO⟩
  iapply Hk
  isplitl [HO Hrest]
  · isplitl [HO]
    · unfold owesBelow
      iexact HO
    iexact Hrest
  isplitl [Hb]; · iexact Hb
  iexact HV

end Cert.Proof.Ker

end
-- ==== Proof.Whole.lean ====
/- The whole program's run: from a launch memory whose ids name rows of the table, every execution ends with each of the
   TensorCore's buffers at the contents the steps leave. -/
module

public import proofs.«01_k».proof.Proof.Main

@[expose] public section

noncomputable section

namespace Cert.Proof.Ker

open Cert.KernelIdeal Cert.KernelIdeal.Gen
open Idealize.ShloMosaic Idealize.ShloMosaic.TcCoe
open Idealize.ShloMosaic.StableHlo
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

/-! ## The launch's ghost state -/

/-- The handshakes' cells, the staging cells, and nothing of the transfers' counters. -/
def u₀ : UU := (initOf (K (F := F)).hsCells (K (F := F)).hsToks,
  (initOf (Pipeline.cells (Pipeline.pin (pcfgs (F := F)) adm) cellOf_injP) (Pipeline.launchToks (Pipeline.pin (pcfgs (F := F)) adm) cellOf_injP), 1))

/-- Pipeline `p`'s staging cells on device `d`, and its tokens. -/
abbrev kit (d : Dev nD) (p : Fin 4) : sProp 𝕄 :=
  iprop(Pipeline.cellsGhost (Pipeline.pin (pcfgs (F := F)) adm) EP p d ∗ Pipeline.toksInit (Pipeline.pin (pcfgs (F := F)) adm) EP p d)

/-- The four pipelines' staging cells on device `d`. -/
abbrev G (d : Dev nD) : sProp 𝕄 := iprop(kit d 0 ∗ kit d 1 ∗ kit d 2 ∗ kit d 3)

omit [FloatOps F] in
/-- Four resources, written out. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The launch's ghost element gives the handshakes, the staging cells of every device, and no further payload. -/
theorem hu₀ (V : Fin 3 → Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 3 => (P V).x q thr) := by
  unfold u₀
  iintro Hu
  ihave H := (ownU_split (F := F) _ _) $$ Hu
  icases H with ⟨HH, HP⟩
  ihave HP := (Pipeline.fund_ghost (Pipeline.pin (pcfgs (F := F)) adm) EP cellOf_injP) $$ HP
  imod HP with ⟨Hg, Ht⟩
  imodintro
  isplitl [HH]; · iexact HH
  isplitl [Hg Ht]
  · iapply (show iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) ⊢ (bigSep Finset.univ fun d : Dev nD => G d : sProp 𝕄) by
      rw [← bigSep_sep']
      refine Entails.of_eq (bigSep_congr fun d _ => ?_)
      rw [← bigSep_sep', bigSep_four])
    isplitl [Hg] <;> iassumption
  rw [show (bigSep Finset.univ fun thr : Thread nD τ => bigSep Finset.univ fun q : Fin 3 => (P (F := F) V).x q thr) = (iprop(emp) : sProp 𝕄) from
    (bigSep_congr fun _ _ => bigSep_emp_const _).trans (bigSep_emp_const _)]
  iempintro

variable (m : (ℓ : Loc nD τ sig) → Buf (Elt F) ℓ) (ρ : Dev nD → PrngReg)

/-! ## @main -/

/-- What @main leaves: every buffer at its final contents. -/
abbrev FIN (d : Dev nD) : sProp 𝕄 := heldAll d (W15 m d)

/-- @main on device `d`'s TensorCore, from the launch's buffers to the final ones. -/
theorem hmain [∀ e, Nonempty (Elt F e)] (κ : GSem nD τ sig → ℕ) (d : Dev nD) :
    iprop((K (F := F)).ctx EH (P (Vq m)) κ ∗ (K (F := F)).tcSt EH d 0 ∗ (K (F := F)).tcRes m ρ d ∗ G d)
      ⊢ wp frame (wpE ((K (F := F)).defs D) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [main_eq]
  iintro ⟨#Hctx, Hst, ⟨Hb, HV, Hts, -⟩, ⟨G0, G1, G2, G3⟩⟩
  ihave HV := (show unscopedBufs d (fun b => m ((SparseCore.T d).loc b)) ⊢ (heldAll d (W0 m d) : sProp 𝕄) from Entails.of_eq (Pipeline.unscopedBufs_held d (W0 m d))) $$ HV
  iapply (line_step 0 d (W0 m d))
  isplitl [Hb]; · iexact Hb
  isplitl [HV]; · iexact HV
  iintro ⟨Hb, HV⟩
  iapply (dense_step (Vq m) κ d 0 0 (W1 m))
  isplitr; · iexact Hctx
  isplitl [Hst]; · iexact Hst
  isplitl [Hb]; · iexact Hb
  isplitl [HV]; · iexact HV
  isplitl [G0]; · iexact G0
  iintro ⟨Hst, Hb, HV⟩
  iapply (line_step 1 d (W2 m d))
  isplitl [Hb]; · iexact Hb
  isplitl [HV]; · iexact HV
  iintro ⟨Hb, HV⟩
  iapply (sc_step (Vq m) κ d 0 main_v7 main_arg2 main_v8 (by decide) (by decide) (by decide) (by decide) (by decide) (by decide) (W3 m d) _ (st_eq0 (Vq m) d) (dn_eq0 (Vq m) d))
  isplitr; · iexact Hctx
  isplitl [Hst]; · iexact Hst
  isplitl [HV]; · iexact HV
  iintro ⟨Hst, HV⟩
  iapply (line_step 2 d (W4 m d))
  isplitl [Hb]; · iexact Hb
  isplitl [HV]; · iexact HV
  iintro ⟨Hb, HV⟩
  iapply (sc_step (Vq m) κ d 1 main_v10 main_arg2 main_v11 (by decide) (by decide) (by decide) (by decide) (by decide) (by decide) (W5 m d) _ (st_eq1 (Vq m) d) (dn_eq1 (Vq m) d))
  isplitr; · iexact Hctx
  isplitl [Hst]; · iexact Hst
  isplitl [HV]; · iexact HV
  iintro ⟨Hst, HV⟩
  iapply (line_step 3 d (W6 m d))
  isplitl [Hb]; · iexact Hb
  isplitl [HV]; · iexact HV
  iintro ⟨Hb, HV⟩
  iapply (sc_step (Vq m) κ d 2 main_v13 main_arg2 main_v14 (by decide) (by decide) (by decide) (by decide) (by decide) (by decide) (W7 m d) _ (st_eq2 (Vq m) d) (dn_eq2 (Vq m) d))
  isplitr; · iexact Hctx
  isplitl [Hst]; · iexact Hst
  isplitl [HV]; · iexact HV
  iintro ⟨Hst, HV⟩
  iapply (line_step 4 d (W8 m d))
  isplitl [Hb]; · iexact Hb
  isplitl [HV]; · iexact HV
  iintro ⟨Hb, HV⟩
  iapply (dense_step (Vq m) κ d 3 1 (W9 m))
  isplitr; · iexact Hctx
  isplitl [Hst]; · iexact Hst
  isplitl [Hb]; · iexact Hb
  isplitl [HV]; · iexact HV
  isplitl [G1]; · iexact G1
  iintro ⟨Hst, Hb, HV⟩
  iapply (line_step 5 d (W10 m d))
  isplitl [Hb]; · iexact Hb
  isplitl [HV]; · iexact HV
  iintro ⟨Hb, HV⟩
  iapply (dense_step (Vq m) κ d 3 2 (W11 m))
  isplitr; · iexact Hctx
  isplitl [Hst]; · iexact Hst
  isplitl [Hb]; · iexact Hb
  isplitl [HV]; · iexact HV
  isplitl [G2]; · iexact G2
  iintro ⟨Hst, Hb, HV⟩
  iapply (line_step 6 d (W12 m d))
  isplitl [Hb]; · iexact Hb
  isplitl [HV]; · iexact HV
  iintro ⟨Hb, HV⟩
  iapply (dense_step (Vq m) κ d 3 3 (W13 m))
  isplitr; · iexact Hctx
  isplitl [Hst]; · iexact Hst
  isplitl [Hb]; · iexact Hb
  isplitl [HV]; · iexact HV
  isplitl [G3]; · iexact G3
  iintro ⟨Hst, Hb, HV⟩
  iapply (line_step 7 d (W14 m d))
  isplitl [Hb]; · iexact Hb
  isplitl [HV]; · iexact HV
  iintro ⟨Hb, HV⟩
  rw [wp_pure]
  imodintro
  isplitl [Hst]; · iexact Hst
  isplitl [HV]; · iexact HV
  isplitl [Hb] <;> iassumption

/-- The final contents, read in the memory. -/
def fq (d : Dev nD) (s' : Phys nD τ sig (Elt F)) : Prop := ∀ b, b ∈ ucs → s'.mem.mem (d, b) = W15 m d b

set_option maxRecDepth 16384 in
/-- What @main leaves says what the memory holds. -/
theorem hfin (d : Dev nD) (s' : Phys nD τ sig (Elt F)) : iprop(FIN m d ∗ SI s') ⊢ (⌜fq m d s'⌝ : sProp 𝕄) := by
  refine (forall_intro fun b => ?_).trans pure_forall.2
  by_cases hb : b ∈ ucs
  · show iprop(bigSep ucs (fun b => (((d, b) : Loc nD τ sig) ↦{fullShare} W15 m d b)) ∗ SI s') ⊢ _
    rw [SparseCore.bigSep_erase' hb]
    iintro ⟨⟨H, -⟩, HSI⟩
    ihave H := (SI_pointsTo_agree (st := s') (ℓ := ((d, b) : Loc nD τ sig)) (I := Finset.univ) (q := fullShare) (f := W15 m d b)) $$ [HSI H]
    · isplitl [HSI] <;> iassumption
    icases H with %h
    ipureintro
    exact fun _ => funext fun i => h i (Finset.mem_univ i)
  · iintro -
    ipureintro
    exact fun h => absurd h hb

/-- The run's end: every buffer of every TensorCore at its final contents, every semaphore at rest. -/
def QC : PUnit × MemSt nD τ sig (Elt F) → Prop := fun r => (∀ d : Dev nD, ∀ b, b ∈ ucs → r.2.mem (d, b) = W15 m d b) ∧ r.2.sem = fun _ => 0

/-- The whole program's run. -/
theorem run_main [∀ e, Nonempty (Elt F e)] (hin : InTable (Vq m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Vq m)) (A := ∅) facts v₀
    (fun q hq => match q with | 0 => nomatch hq | 1 => nomatch hq | 2 => nomatch hq)
    (fun q _ => tileObl (Vq m) hin q)
    (fun q _ => SparseCore.Cfg.VecSplit.of_plain (vecSplit (Vq m) q))
    m ρ main G (FIN m) (u₀ (F := F)) (sep_elim_left.trans (hu₀ (Vq m))) (hmain m ρ) (fq m) (hfin m) (QC m) (fun _ h hz => ⟨h, hz⟩)

end Cert.Proof.Ker

end
-- ==== Proof.Cuts.lean ====
/- What the host's lines compute: each index list and each list of times is a stretch of the ids or of the times in
   row-major order; the tables and the weights are kept or padded. Every buffer that a step does not write is kept. -/
module

public import proofs.«01_k».proof.Proof.Line
public import Idealize.ShloMosaic.Lib.StableHlo.RunClose
public import Idealize.ShloMosaic.Lib.DynamicIndex

@[expose] public section

noncomputable section

namespace Cert.Proof.Ker

open Cert.KernelIdeal Cert.KernelIdeal.Gen
open Idealize.ShloMosaic
open Idealize.ShloMosaic.StableHlo
open Idealize.ShloMosaic.ValueIdx

variable {F : FTy → Type} [FloatOps F]

/-! ## A stretch of a flat list -/

/-- The place of the `R`-th token. -/
def tok (R : ℕ) (h : R < 204800) : S1024x200.Idx :=
  ix2 (⟨R / 200, Nat.div_lt_of_lt_mul (by omega)⟩ : Fin 1024) (⟨R % 200, Nat.mod_lt _ (by decide)⟩ : Fin 200)

/-- The flat list at `R` is the array at the `R`-th token. -/
theorem flat_apply {α : Type} (a : S1024x200.Idx → α) (h0 : S1024x200.ShapeCasts S204800) (R : ℕ) (h : R < 204800) :
    shapeCast S204800 a h0 (ix1 (⟨R, h⟩ : Fin 204800)) = a (tok R h) := by
  unfold shapeCast
  refine congrArg a (Shape.reshapeEquiv_eq_of_rowMajor _ ?_)
  rw [Shape.rowMajor_val_two, Shape.rowMajor_val_one]
  show R / 200 * 200 + R % 200 = R
  omega

/-- A stretch of `n` from `off` on, laid out in any shape, holds at `x` the token `off` plus the row-major place of `x`. -/
theorem cut_apply {α : Type} {n off : ℕ} {t : Shape} (a : S1024x200.Idx → α) (h0 : S1024x200.ShapeCasts S204800) (start : Fin 1 → Int) (hs : ∀ k, start k = (off : Int))
    (hf : S204800.Slices (fun _ => 0) ⟨1, ![n]⟩) (ht : Shape.ShapeCasts ⟨1, ![n]⟩ t) (hoff : off + n ≤ 204800) (x : t.Idx) (R : ℕ) (hR : R < 204800)
    (hx : off + (t.rowMajor x).val = R) :
    shapeCast t (Host.dynamicSlice ⟨1, ![n]⟩ (shapeCast S204800 a h0) start hf) ht x = a (tok R hR) := by
  have hsl : S204800.Slices (fun _ => off) ⟨1, ![n]⟩ := ⟨rfl, fun k => by
    match k with
    | ⟨0, _⟩ => exact hoff⟩
  have hlt : (t.rowMajor x).val < n := lt_of_lt_of_eq (t.rowMajor x).isLt (by rw [← show Shape.numel ⟨1, ![n]⟩ = n by simp [Shape.numel]]; exact ht)
  rw [Host.dynamicSlice_eq_extractStridedSlice _ _ _ (fun _ => off) hf hsl hs, ← flat_apply a h0 R hR]
  show extractStridedSlice ⟨1, ![n]⟩ (fun _ => off) _ hsl (Shape.reshapeEquiv ht x) = _
  rw [Shape.reshapeEquiv_eq_of_rowMajor ht (x := x) (y := ix1 (⟨(t.rowMajor x).val, hlt⟩ : Fin n)) (by rw [Shape.rowMajor_val_one]; rfl)]
  unfold extractStridedSlice
  refine congrArg (shapeCast S204800 a h0) (funext fun k => ?_)
  match k with
  | ⟨0, _⟩ => exact Fin.ext hx

/-! ## The lines' results -/

omit [FloatOps F] in
/-- A constant start, read as the slice reads it. -/
theorem start_eq (v : BitVec 32) :
    (fun k : Fin 1 => BitVec.toInt ((![constantI S_ 32 v] : Fin 1 → (⟨S_, .i32⟩ : BufTy).Contents (Elt F)) k (Shape.Idx.first h_S_))) = fun _ => v.toInt :=
  funext fun k => match k with | ⟨0, _⟩ => rfl

/-- The first gather's index list; -/
theorem line1_v7 (V : Valuation τ sig (Elt F)) : after (lines 1) V (Proc.devRef .tc main_v7)
    = shapeCast S32x4x128 (Host.dynamicSlice S16384 (V (Proc.devRef .tc main_v0)) (fun _ => (0#32 : BitVec 32).toInt) sliceFits_S204800_S16384) shapeCasts_S16384_S32x4x128 := by
  simp only [lines, opsB]
  after_results_simp_entrywise
  exact congrArg (fun st => shapeCast S32x4x128 (Host.dynamicSlice S16384 (V (Proc.devRef .tc main_v0)) st sliceFits_S204800_S16384) shapeCasts_S16384_S32x4x128) (start_eq (F := F) 0#32)

/-- the second's; -/
theorem line2_v10 (V : Valuation τ sig (Elt F)) : after (lines 2) V (Proc.devRef .tc main_v10)
    = shapeCast S32x12x128 (Host.dynamicSlice S49152 (V (Proc.devRef .tc main_v0)) (fun _ => (16384#32 : BitVec 32).toInt) sliceFits_S204800_S49152) shapeCasts_S49152_S32x12x128 := by
  simp only [lines, opsC]
  after_results_simp_entrywise
  exact congrArg (fun st => shapeCast S32x12x128 (Host.dynamicSlice S49152 (V (Proc.devRef .tc main_v0)) st sliceFits_S204800_S49152) shapeCasts_S49152_S32x12x128) (start_eq (F := F) 16384#32)

/-- the third's. -/
theorem line3_v13 (V : Valuation τ sig (Elt F)) : after (lines 3) V (Proc.devRef .tc main_v13)
    = shapeCast S32x34x128 (Host.dynamicSlice S139264 (V (Proc.devRef .tc main_v0)) (fun _ => (65536#32 : BitVec 32).toInt) sliceFits_S204800_S139264) shapeCasts_S139264_S32x34x128 := by
  simp only [lines, opsD]
  after_results_simp_entrywise
  exact congrArg (fun st => shapeCast S32x34x128 (Host.dynamicSlice S139264 (V (Proc.devRef .tc main_v0)) st sliceFits_S204800_S139264) shapeCasts_S139264_S32x34x128) (start_eq (F := F) 65536#32)

/-- The first stretch's times; -/
theorem line4_v16 (V : Valuation τ sig (Elt F)) : after (lines 4) V (Proc.devRef .tc main_v16)
    = shapeCast S4x1x4096 (Host.dynamicSlice S16384 (V (Proc.devRef .tc main_v1)) (fun _ => (0#32 : BitVec 32).toInt) sliceFits_S204800_S16384) shapeCasts_S16384_S4x1x4096 := by
  simp only [lines, opsE]
  after_results_simp_entrywise
  exact congrArg (fun st => shapeCast S4x1x4096 (Host.dynamicSlice S16384 (V (Proc.devRef .tc main_v1)) st sliceFits_S204800_S16384) shapeCasts_S16384_S4x1x4096) (start_eq (F := F) 0#32)

/-- the second's; -/
theorem line5_v19 (V : Valuation τ sig (Elt F)) : after (lines 5) V (Proc.devRef .tc main_v19)
    = shapeCast S12x1x4096 (Host.dynamicSlice S49152 (V (Proc.devRef .tc main_v1)) (fun _ => (16384#32 : BitVec 32).toInt) sliceFits_S204800_S49152) shapeCasts_S49152_S12x1x4096 := by
  simp only [lines, opsF]
  after_results_simp_entrywise
  exact congrArg (fun st => shapeCast S12x1x4096 (Host.dynamicSlice S49152 (V (Proc.devRef .tc main_v1)) st sliceFits_S204800_S49152) shapeCasts_S49152_S12x1x4096) (start_eq (F := F) 16384#32)

/-- the last's. -/
theorem line6_v22 (V : Valuation τ sig (Elt F)) : after (lines 6) V (Proc.devRef .tc main_v22)
    = shapeCast S34x1x4096 (Host.dynamicSlice S139264 (V (Proc.devRef .tc main_v1)) (fun _ => (65536#32 : BitVec 32).toInt) sliceFits_S204800_S139264) shapeCasts_S139264_S34x1x4096 := by
  simp only [lines, opsG]
  after_results_simp_entrywise
  exact congrArg (fun st => shapeCast S34x1x4096 (Host.dynamicSlice S139264 (V (Proc.devRef .tc main_v1)) st sliceFits_S204800_S139264) shapeCasts_S139264_S34x1x4096) (start_eq (F := F) 65536#32)

/-- The second stretch starts from the first's result, -/
theorem line5_v20 (V : Valuation τ sig (Elt F)) : after (lines 5) V (Proc.devRef .tc main_v20) = V (Proc.devRef .tc main_v17) := by
  simp only [lines, opsF]
  after_results_simp_entrywise
  rfl
/-- the last from the second's, -/
theorem line6_v23 (V : Valuation τ sig (Elt F)) : after (lines 6) V (Proc.devRef .tc main_v23) = V (Proc.devRef .tc main_v20) := by
  simp only [lines, opsG]
  after_results_simp_entrywise
  rfl
/-- and the result is the last's, reshaped. -/
theorem line7_v24 (V : Valuation τ sig (Elt F)) : after (lines 7) V (Proc.devRef .tc main_v24)
    = shapeCast S1024x200x1024 (V (Proc.devRef .tc main_v23)) shapeCasts_S204800x1024_S1024x200x1024 := by
  simp only [lines, opsH]
  after_results_simp_entrywise
  rfl

/-- The ids, flat; -/
theorem line0_v0 (V : Valuation τ sig (Elt F)) : after (lines 0) V (Proc.devRef .tc main_v0) = shapeCast S204800 (V (Proc.devRef .tc main_arg0)) shapeCasts_S1024x200_S204800 := by
  simp only [lines, opsA, TRef.binary, TRef.unary, TRef.toBuf, TRef.ofBuf, cast_eq, main_call0]
  after_results_simp_entrywise
  rfl
/-- the times, flat; -/
theorem line0_v1 (V : Valuation τ sig (Elt F)) : after (lines 0) V (Proc.devRef .tc main_v1) = shapeCast S204800 (V (Proc.devRef .tc main_arg1)) shapeCasts_S1024x200_S204800 := by
  simp only [lines, opsA, TRef.binary, TRef.unary, TRef.toBuf, TRef.ofBuf, cast_eq, main_call0]
  after_results_simp_entrywise
  rfl
/-- the time table, three rows of the zero appended, rounded to bf16; -/
theorem line0_v3 (V : Valuation τ sig (Elt F)) : after (lines 0) V (Proc.devRef .tc main_v3)
    = truncf .bf16 (pad S304x128 ![0, 0] ![3, 0] ![0, 0] (V (Proc.devRef .tc main_arg3)) (sitofp (F := F) .f32 (constantI S_ 32 0#32)) pads_S301x128_S304x128_030_000 h_S_) bitsLt_bf16_f32 := by
  simp only [lines, opsA, TRef.binary, TRef.unary, TRef.toBuf, TRef.ofBuf, cast_eq, main_call0]
  after_results_simp_entrywise
/-- and the weights, rounded to bf16. -/
theorem line0_v4 (V : Valuation τ sig (Elt F)) : after (lines 0) V (Proc.devRef .tc main_v4) = truncf .bf16 (V (Proc.devRef .tc main_arg4)) bitsLt_bf16_f32 := by
  simp only [lines, opsA, TRef.binary, TRef.unary, TRef.toBuf, TRef.ofBuf, cast_eq, main_call0]
  after_results_simp_entrywise

/-! ## What is kept -/

variable (m : (ℓ : Loc nD τ sig) → Buf (Elt F) ℓ)

/-- What is written from the first gather's line on. -/
abbrev lateWritten : List (Ref sig .tc) :=
  written 1 ++ [main_v8] ++ written 2 ++ [main_v11] ++ written 3 ++ [main_v14] ++ written 4 ++ [main_v17] ++ written 5 ++ written 6 ++ written 7

variable {m} in
/-- A buffer that nothing writes from the first gather's line on stands as it was, at every later step. -/
theorem kept_late (d : Dev nD) {r : Ref sig .tc} (h : r ∉ lateWritten) :
    W3 m d (Proc.devRef .tc r) = W2 m d (Proc.devRef .tc r) ∧ W4 m d (Proc.devRef .tc r) = W2 m d (Proc.devRef .tc r) ∧ W5 m d (Proc.devRef .tc r) = W2 m d (Proc.devRef .tc r)
    ∧ W6 m d (Proc.devRef .tc r) = W2 m d (Proc.devRef .tc r) ∧ W7 m d (Proc.devRef .tc r) = W2 m d (Proc.devRef .tc r) ∧ W8 m d (Proc.devRef .tc r) = W2 m d (Proc.devRef .tc r)
    ∧ W9 m d (Proc.devRef .tc r) = W2 m d (Proc.devRef .tc r) ∧ W10 m d (Proc.devRef .tc r) = W2 m d (Proc.devRef .tc r) ∧ W11 m d (Proc.devRef .tc r) = W2 m d (Proc.devRef .tc r)
    ∧ W12 m d (Proc.devRef .tc r) = W2 m d (Proc.devRef .tc r) ∧ W13 m d (Proc.devRef .tc r) = W2 m d (Proc.devRef .tc r) ∧ W15 m d (Proc.devRef .tc r) = W2 m d (Proc.devRef .tc r) := by
  simp only [lateWritten, List.mem_append, not_or, List.mem_singleton] at h
  obtain ⟨⟨⟨⟨⟨⟨⟨⟨⟨⟨h1, h8⟩, h2⟩, h11⟩, h3⟩, h14⟩, h4⟩, h17⟩, h5⟩, h6⟩, h7⟩ := h
  have h20 : r ≠ main_v20 := fun e => h5 (by rw [e]; decide)
  have h23 : r ≠ main_v23 := fun e => h6 (by rw [e]; decide)
  have e3 : W3 m d (Proc.devRef .tc r) = W2 m d (Proc.devRef .tc r) := line_keeps 1 _ h1
  have e4 : W4 m d (Proc.devRef .tc r) = W2 m d (Proc.devRef .tc r) := (Function.update_of_ne (devRef_ne_of_ne h8) _ _).trans e3
  have e5 : W5 m d (Proc.devRef .tc r) = W2 m d (Proc.devRef .tc r) := (line_keeps 2 _ h2).trans e4
  have e6 : W6 m d (Proc.devRef .tc r) = W2 m d (Proc.devRef .tc r) := (Function.update_of_ne (devRef_ne_of_ne h11) _ _).trans e5
  have e7 : W7 m d (Proc.devRef .tc r) = W2 m d (Proc.devRef .tc r) := (line_keeps 3 _ h3).trans e6
  have e8 : W8 m d (Proc.devRef .tc r) = W2 m d (Proc.devRef .tc r) := (Function.update_of_ne (devRef_ne_of_ne h14) _ _).trans e7
  have e9 : W9 m d (Proc.devRef .tc r) = W2 m d (Proc.devRef .tc r) := (line_keeps 4 _ h4).trans e8
  have e10 : W10 m d (Proc.devRef .tc r) = W2 m d (Proc.devRef .tc r) := (left_keeps (W9 m) _ _ 1 d h17).trans e9
  have e11 : W11 m d (Proc.devRef .tc r) = W2 m d (Proc.devRef .tc r) := (line_keeps 5 _ h5).trans e10
  have e12 : W12 m d (Proc.devRef .tc r) = W2 m d (Proc.devRef .tc r) := (left_keeps (W11 m) _ _ 2 d h20).trans e11
  have e13 : W13 m d (Proc.devRef .tc r) = W2 m d (Proc.devRef .tc r) := (line_keeps 6 _ h6).trans e12
  have e14 : W14 m d (Proc.devRef .tc r) = W2 m d (Proc.devRef .tc r) := (left_keeps (W13 m) _ _ 3 d h23).trans e13
  exact ⟨e3, e4, e5, e6, e7, e8, e9, e10, e11, e12, e13, (line_keeps 7 _ fun h => h7 (List.mem_singleton.mp h)).trans e14⟩

/-- A buffer the first line and the first dense call do not write holds its launch contents after them. -/
theorem kept_early (d : Dev nD) {r : Ref sig .tc} (h0 : r ∉ written 0) (h5 : r ≠ main_v5) : W2 m d (Proc.devRef .tc r) = m (d, Proc.devRef .tc r) :=
  (left_keeps (W1 m) _ _ 0 d h5).trans (line_keeps 0 _ h0)

/-- The arguments end as they began. -/
theorem kept_arg (d : Dev nD) {r : Ref sig .tc} (h : r ∉ lateWritten) (h0 : r ∉ written 0) (h5 : r ≠ main_v5) : W15 m d (Proc.devRef .tc r) = m (d, Proc.devRef .tc r) :=
  (kept_late d h).2.2.2.2.2.2.2.2.2.2.2.trans (kept_early m d h0 h5)

/-- The flat ids after the first dense call, -/
theorem W2_v0 (d : Dev nD) : W2 m d (Proc.devRef .tc main_v0) = shapeCast S204800 (m (d, Proc.devRef .tc main_arg0)) shapeCasts_S1024x200_S204800 :=
  (left_keeps (W1 m) _ _ 0 d (by decide)).trans (line0_v0 _)
/-- and the flat times. -/
theorem W2_v1 (d : Dev nD) : W2 m d (Proc.devRef .tc main_v1) = shapeCast S204800 (m (d, Proc.devRef .tc main_arg1)) shapeCasts_S1024x200_S204800 :=
  (left_keeps (W1 m) _ _ 0 d (by decide)).trans (line0_v1 _)

/-! ## The lists, entry by entry -/

/-- The ids and the times as launched. -/
abbrev idsOf (d : Dev nD) : S1024x200.Idx → BitVec 32 := m (d, Proc.devRef .tc main_arg0)
/-- The elapsed times, as launched. -/
abbrev timesOf (d : Dev nD) : S1024x200.Idx → BitVec 32 := m (d, Proc.devRef .tc main_arg1)

/-- The first gather's index list at `x` is the id of the token at its row-major place; -/
theorem ids1 (d : Dev nD) (x : S32x4x128.Idx) (R : ℕ) (hR : R < 204800) (hx : 0 + (S32x4x128.rowMajor x).val = R) :
    W3 m d (Proc.devRef .tc main_v7) x = idsOf m d (tok R hR) := by
  refine (congrFun (line1_v7 (W2 m d)) x).trans ?_
  rw [W2_v0]
  exact cut_apply (n := 16384) _ _ _ (fun _ => rfl) _ _ (by decide) x R hR hx
/-- the second's, sixteen thousand tokens later; -/
theorem ids2 (d : Dev nD) (x : S32x12x128.Idx) (R : ℕ) (hR : R < 204800) (hx : 16384 + (S32x12x128.rowMajor x).val = R) :
    W5 m d (Proc.devRef .tc main_v10) x = idsOf m d (tok R hR) := by
  refine (congrFun (line2_v10 (W4 m d)) x).trans ?_
  rw [(kept_late d (by decide)).2.1, W2_v0]
  exact cut_apply (n := 49152) _ _ _ (fun _ => rfl) _ _ (by decide) x R hR hx
/-- the third's, after both. -/
theorem ids3 (d : Dev nD) (x : S32x34x128.Idx) (R : ℕ) (hR : R < 204800) (hx : 65536 + (S32x34x128.rowMajor x).val = R) :
    W7 m d (Proc.devRef .tc main_v13) x = idsOf m d (tok R hR) := by
  refine (congrFun (line3_v13 (W6 m d)) x).trans ?_
  rw [(kept_late d (by decide)).2.2.2.1, W2_v0]
  exact cut_apply (n := 139264) _ _ _ (fun _ => rfl) _ _ (by decide) x R hR hx
/-- The first stretch's times at `x` are the times of the token at its row-major place; -/
theorem times1 (d : Dev nD) (x : S4x1x4096.Idx) (R : ℕ) (hR : R < 204800) (hx : 0 + (S4x1x4096.rowMajor x).val = R) :
    W9 m d (Proc.devRef .tc main_v16) x = timesOf m d (tok R hR) := by
  refine (congrFun (line4_v16 (W8 m d)) x).trans ?_
  rw [(kept_late d (by decide)).2.2.2.2.2.1, W2_v1]
  exact cut_apply (n := 16384) _ _ _ (fun _ => rfl) _ _ (by decide) x R hR hx
/-- the second's; -/
theorem times2 (d : Dev nD) (x : S12x1x4096.Idx) (R : ℕ) (hR : R < 204800) (hx : 16384 + (S12x1x4096.rowMajor x).val = R) :
    W11 m d (Proc.devRef .tc main_v19) x = timesOf m d (tok R hR) := by
  refine (congrFun (line5_v19 (W10 m d)) x).trans ?_
  rw [(kept_late d (by decide)).2.2.2.2.2.2.2.1, W2_v1]
  exact cut_apply (n := 49152) _ _ _ (fun _ => rfl) _ _ (by decide) x R hR hx
/-- the last's. -/
theorem times3 (d : Dev nD) (x : S34x1x4096.Idx) (R : ℕ) (hR : R < 204800) (hx : 65536 + (S34x1x4096.rowMajor x).val = R) :
    W13 m d (Proc.devRef .tc main_v22) x = timesOf m d (tok R hR) := by
  refine (congrFun (line6_v22 (W12 m d)) x).trans ?_
  rw [(kept_late d (by decide)).2.2.2.2.2.2.2.2.2.1, W2_v1]
  exact cut_apply (n := 139264) _ _ _ (fun _ => rfl) _ _ (by decide) x R hR hx

/-- If every id names a row of the table, every index list's entry does. -/
theorem inTable_of (h : ∀ d x, (idsOf m d x).toNat < 100000) : InTable (Vq m) := fun d =>
  ⟨fun x => by
      have hl := (S32x4x128.rowMajor x).isLt
      exact (congrArg BitVec.toNat (ids1 m d x _ (by have : S32x4x128.numel = 16384 := by decide
                                                     omega) rfl)).trans_lt (h d _),
    fun x => by
      have hl := (S32x12x128.rowMajor x).isLt
      exact (congrArg BitVec.toNat (ids2 m d x _ (by have : S32x12x128.numel = 49152 := by decide
                                                     omega) rfl)).trans_lt (h d _),
    fun x => by
      have hl := (S32x34x128.rowMajor x).isLt
      exact (congrArg BitVec.toNat (ids3 m d x _ (by have : S32x34x128.numel = 139264 := by decide
                                                     omega) rfl)).trans_lt (h d _)⟩

end Cert.Proof.Ker

end
-- ==== Proof.Pre.lean ====
/- What the first precondition says of the launch arrays: every id names a row of the table. -/
module

public import proofs.«01_k».proof.Proof.Cuts
public import proofs.«01_k».proof.Defs
public import Idealize.ShloMosaic.Lib.ReduceAll
public import Idealize.ShloMosaic.Lib.IdealHost

@[expose] public section

noncomputable section

namespace Cert.Proof.Ker

open Idealize.ShloMosaic

/-- The shape facts of the first precondition. -/
theorem preIds : Cert.Pre_ids_in_table.Facts := ⟨by decide, by decide, by decide⟩

/-- A scalar has one index. -/
instance : Subsingleton Cert.Pre_ids_in_table.S_.Idx := inferInstanceAs (Subsingleton (∀ k : Fin 0, Fin _))

/-- A word that is at least 0 and less than 100000, read with its sign, is less than 100000. -/
theorem word_range (v : BitVec 32) (e : IntOp.andi (IntOp.cmpi .sge v 0#32) (IntOp.cmpi .slt v 100000#32) = 1#1) : v.toNat < 100000 := by
  obtain ⟨h0, h1⟩ := IntOp.andi_eq_one.1 e
  have bit (p : Bool) (h : BitVec.ofBool p = 1#1) : p = true := by
    cases p
    · exact absurd h (by decide)
    · rfl
  have h0 := bit _ h0
  have h1 := bit _ h1
  simp only [BitVec.sle_eq_decide, BitVec.slt_eq_decide, decide_eq_true_eq, BitVec.toInt_eq_toNat_cond, BitVec.toNat_ofNat,
    Nat.reducePow, Nat.reduceMod] at h0 h1
  omega

section
variable {F : FTy → Type} [FloatOps F]
attribute [local instance] preIds

/-- The first precondition puts every id in the table's range. -/
theorem ids_of_pre (a0 a1 : IVec _ 32) (a2 a3 a4 a5 a6 a7) (e : Cert.Pre_ids_in_table.fn (F := F) a0 a1 a2 a3 a4 a5 a6 a7 = fun _ => 1#1) (x : Cert.Pre_ids_in_table.S1024x200.Idx) :
    (a0 x).toNat < 100000 := by
  have e := congrFun e (fun k => k.elim0)
  simp only [Cert.Pre_ids_in_table.fn] at e
  exact word_range _ (Host.reduce_andi_all _ _ _ _ _ e x)
end

end Cert.Proof.Ker

end
-- ==== Proof.Same.lean ====
/- The kernel as it is printed for the machine's words and as it is printed for the extended reals have the same text:
   the two tables of bodies are one, and so are the two programs. -/
module

public import proofs.«01_k».proof.Proof.Gen.Kernel
public import proofs.«01_k».proof.Proof.Gen.KernelIdeal

@[expose] public section

noncomputable section

namespace Cert.Proof.Ker

open Idealize.ShloMosaic

variable {F : FTy → Type} [FloatOps F]

set_option maxHeartbeats 4000000 in
/-- The kernels' bodies, label by label on each kind of processor. -/
theorem same_body (p : Proc Cert.KernelIdeal.τ) (l : Fin 7) (a : Cert.KernelIdeal.Λ₀.Args l) :
    (Cert.Kernel.defs₀ (F := F) : Defs Cert.KernelIdeal.nD Cert.KernelIdeal.τ Cert.KernelIdeal.sig (Elt F) Cert.KernelIdeal.Λ₀) p l a = Cert.KernelIdeal.defs₀ (F := F) p l a :=
  match p, l, a with
  | .tc, ⟨0, _⟩, (_, _) => rfl
  | .tc, ⟨1, _⟩, _ => rfl
  | .tc, ⟨2, _⟩, _ => rfl
  | .tc, ⟨3, _⟩, _ => rfl
  | .tc, ⟨4, _⟩, (_, _) => rfl
  | .tc, ⟨5, _⟩, (_, _) => rfl
  | .tc, ⟨6, _⟩, (_, _) => rfl
  | .scScalar _, ⟨0, _⟩, _ => rfl
  | .scScalar _, ⟨1, _⟩, _ => rfl
  | .scScalar _, ⟨2, _⟩, _ => rfl
  | .scScalar _, ⟨3, _⟩, _ => rfl
  | .scScalar _, ⟨4, _⟩, _ => rfl
  | .scScalar _, ⟨5, _⟩, _ => rfl
  | .scScalar _, ⟨6, _⟩, _ => rfl
  | .scVector _ _, ⟨0, _⟩, _ => rfl
  | .scVector _ _, ⟨1, _⟩, _ => rfl
  | .scVector _ _, ⟨2, _⟩, _ => rfl
  | .scVector _ _, ⟨3, _⟩, _ => rfl
  | .scVector _ _, ⟨4, _⟩, _ => rfl
  | .scVector _ _, ⟨5, _⟩, _ => rfl
  | .scVector _ _, ⟨6, _⟩, _ => rfl

/-- The kernels' bodies. -/
theorem same_bodies : Cert.Kernel.defs₀ (F := F) = Cert.KernelIdeal.defs₀ (F := F) :=
  funext fun p => funext fun l => funext fun a => same_body p l a

/-- All the bodies, with the pipelines' and the SparseCore calls' own. -/
theorem same_defs : Cert.Kernel.defs (F := F) = Cert.KernelIdeal.defs (F := F) :=
  congrArg (fun D => Cert.KernelIdeal.sc.defs (Pipeline.defs Cert.KernelIdeal.pcfgs D)) same_bodies

set_option maxHeartbeats 4000000 in
/-- The host's programs. -/
theorem same_main : Cert.Kernel.main (F := F) = Cert.KernelIdeal.main (F := F) := rfl

/-- The threads' programs. -/
theorem same_threads : Cert.Kernel.threads (F := F) = Cert.KernelIdeal.threads (F := F) :=
  congrArg (fun M => Cert.KernelIdeal.sc.threads M) same_main

end Cert.Proof.Ker

end
-- ==== Proof.Frames.lean ====
/- The frames: each program runs to its end, leaves its arguments as they were and every counter at zero. -/
module

public import proofs.«01_k».proof.Proof.Whole
public import proofs.«01_k».proof.Proof.Pre
public import proofs.«01_k».proof.Proof.Gen.ReferenceIdeal.Run
public import proofs.«01_k».proof.Proof.Same

@[expose] public section

noncomputable section

namespace Cert.Proof.Ker

open Cert.KernelIdeal Cert.KernelIdeal.Gen
open Idealize.ShloMosaic Idealize.SL.Sem

variable {F : FTy → Type} [FloatOps F]

/-- At the end an argument buffer, and every other buffer that no step writes, is as it was at the launch. -/
theorem arg_kept {m : (ℓ : Loc nD τ sig) → Buf (Elt F) ℓ} {r : PUnit × MemSt nD τ sig (Elt F)} (h : QC m r) (c : Dev nD) (b : Ref sig .tc)
    (hu : Proc.devRef .tc b ∈ ucs) (h1 : b ∉ lateWritten) (h0 : b ∉ written 0) (h5 : b ≠ main_v5) :
    r.2.mem ((c.tc : Thread nD τ).loc b) = m ((c.tc : Thread nD τ).loc b) :=
  (h.1 c _ hu).trans (kept_arg m c h1 h0 h5)

/-- All eight arguments are as they were. -/
theorem args_kept {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨arg_kept h c _ (by decide) (by decide) (by decide) (by decide), arg_kept h c _ (by decide) (by decide) (by decide) (by decide),
   arg_kept h c _ (by decide) (by decide) (by decide) (by decide), arg_kept h c _ (by decide) (by decide) (by decide) (by decide),
   arg_kept h c _ (by decide) (by decide) (by decide) (by decide), arg_kept h c _ (by decide) (by decide) (by decide) (by decide),
   arg_kept h c _ (by decide) (by decide) (by decide) (by decide), arg_kept h c _ (by decide) (by decide) (by decide) (by decide)⟩

attribute [local instance] preIds

/-- The kernel's frame at the machine's own words. -/
theorem frame_kernel : Cert.quiescent_Kernel := by
  intro m ρ h
  have hr := (θ_run (Cert.KernelIdeal.defs (F := Bits)) _ _).mono (fun _ h => And.intro (fun c => args_kept h c) h.2)
    (run_main (F := Bits) m ρ (inTable_of m fun d x => ids_of_pre _ _ _ _ _ _ _ _ (h d) x))
  rw [← same_defs, ← same_threads] at hr
  exact hr

/-- The kernel's frame over the extended reals. -/
theorem frame_ideal : Cert.quiescent_KernelIdeal := fun m ρ h =>
  (θ_run (Cert.KernelIdeal.defs (F := Ideal)) _ _).mono (fun _ h => ⟨args_kept h, h.2⟩)
    (run_main (F := Ideal) m ρ (inTable_of m fun d x => ids_of_pre _ _ _ _ _ _ _ _ (h d) x))

/-- The reference's frame: it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Ker

end
-- ==== Proof.Words.lean ====
module
public import Idealize.ShloMosaic.Lib.Pointwise
@[expose] public section

/-! Facts of 32-bit words: the two orders of cutting a time to the interval from 0 to 300 agree, and an index below the
    number of rows passes the reference's wrap and its bounds test unchanged. -/

namespace Cert.Proof.Ref

open Idealize.ShloMosaic

/-- A time plus one, cut to the interval from 0 to 300. -/
def cutWord (t : BitVec 32) : BitVec 32 := IntOp.minsi 300#32 (IntOp.maxsi 0#32 (IntOp.addi t 1#32))

/-- Cutting with the bounds on the other side gives the same word. -/
theorem cut_swap (t : BitVec 32) : IntOp.minsi (IntOp.maxsi (IntOp.addi t 1#32) 0#32) 300#32 = cutWord t := by
  have h0 : (0#32 : BitVec 32).toInt = 0 := rfl
  have h3 : (300#32 : BitVec 32).toInt = 300 := rfl
  unfold cutWord
  generalize IntOp.addi t 1#32 = x
  apply BitVec.eq_of_toInt_eq
  simp only [IntOp.minsi, IntOp.maxsi, BitVec.slt_iff_toInt_lt]
  split_ifs <;> simp only [h0, h3] at * <;> omega

/-- A cut time is at most 300. -/
theorem cut_le (t : BitVec 32) : (cutWord t).toNat ≤ 300 := by
  have h0 : (0#32 : BitVec 32).toInt = 0 := rfl
  have h3 : (300#32 : BitVec 32).toInt = 300 := rfl
  have h : 0 ≤ (cutWord t).toInt ∧ (cutWord t).toInt ≤ 300 := by
    unfold cutWord
    generalize IntOp.addi t 1#32 = x
    simp only [IntOp.minsi, IntOp.maxsi, BitVec.slt_iff_toInt_lt]
    split_ifs <;> simp only [h0, h3] at * <;> omega
  have h2 := BitVec.toInt_eq_toNat_cond (cutWord t)
  have h4 := (cutWord t).isLt
  split_ifs at h2 <;> omega

variable {x k : BitVec 32}

/-- A word below half the range is its own number. -/
theorem toInt_of_small (hx : x.toNat < 2 ^ 31) : x.toInt = x.toNat := by
  rw [BitVec.toInt_eq_toNat_cond, if_pos (by omega)]

/-- A small word is not negative, so the wrap keeps it. -/
theorem wrap_small (n : BitVec 32) (hx : x.toNat < 2 ^ 31) :
    Scalar.select (IntOp.cmpi CmpIPredicate.slt x 0#32) (IntOp.addi x n) x = x := by
  have h : x.slt 0#32 = false := by
    rw [BitVec.slt_eq_decide, toInt_of_small hx]
    simp
  simp [Scalar.select, IntOp.cmpi, h]

/-- A small word passes the bounds test. -/
theorem inside_small (hx : x.toNat ≤ k.toNat) (hk : k.toNat < 2 ^ 31) :
    IntOp.andi (IntOp.cmpi CmpIPredicate.sge x 0#32) (IntOp.cmpi CmpIPredicate.sle x k) = 1#1 := by
  have h : (0#32 : BitVec 32).sle x = true := by
    rw [BitVec.sle_eq_decide, toInt_of_small (by omega : x.toNat < 2 ^ 31)]
    simp
  have h' : x.sle k = true := by
    rw [BitVec.sle_eq_decide, toInt_of_small (by omega), toInt_of_small hk]
    simpa using hx
  simp [IntOp.cmpi, IntOp.andi, h, h']

/-- The product of a one-hot row by a column picks the column's entry: row `r` compares its number with the word `x`. -/
theorem oneHot_sum {n : Nat} (hn : n ≤ 2 ^ 31) (y : Fin n → EReal) (hx : x.toNat < n) :
    ∑ r : Fin n, FloatOps.sitofp (F := Ideal) FTy.f32 (BitVec.setWidth 32 (IntOp.cmpi CmpIPredicate.eq (BitVec.ofNat 32 ↑r) x)) * y r
      = y ⟨x.toNat, hx⟩ := by
  have key : ∀ r : Fin n, (FloatOps.sitofp (F := Ideal) FTy.f32 (BitVec.setWidth 32 (IntOp.cmpi CmpIPredicate.eq (BitVec.ofNat 32 ↑r) x)) : EReal)
      = if r = ⟨x.toNat, hx⟩ then 1 else 0 := by
    intro r
    have hr := r.isLt
    by_cases h : r = ⟨x.toNat, hx⟩
    · have : BitVec.ofNat 32 r.val = x := by
        rw [h]; exact BitVec.eq_of_toNat_eq (by simp)
      rw [if_pos h, this]
      show (((BitVec.setWidth 32 (BitVec.ofBool (x == x))).toInt : ℝ) : EReal) = 1
      simp
    · have : BitVec.ofNat 32 r.val ≠ x := by
        intro e
        apply h
        apply Fin.ext
        show r.val = x.toNat
        rw [← e, BitVec.toNat_ofNat, Nat.mod_eq_of_lt (by omega)]
      rw [if_neg h]
      show (((BitVec.setWidth 32 (BitVec.ofBool (BitVec.ofNat 32 r.val == x))).toInt : ℝ) : EReal) = 0
      rw [beq_eq_false_iff_ne.mpr this]
      simp
  simp only [key, ite_mul, one_mul, zero_mul, Finset.sum_ite_eq', Finset.mem_univ, if_true]

end Cert.Proof.Ref
-- ==== Proof.Row.lean ====
module
public import Idealize.ShloMosaic.Lib.Pointwise
@[expose] public section

noncomputable section

/-! One row of the normalisation, over the extended reals: as the kernel computes it, as the reference computes it, and
    their equality on real operands. -/

namespace Cert.Proof.Row

open Idealize.ShloMosaic

/-- The kernel's row: `e` the 256 embedded entries, `w` the weights. The mean is the product of `e` with the weights'
    row means, the variance the mean of the squares less the square of the mean, cut at zero. -/
def kerRow (e : Fin 256 → EReal) (w : Fin 256 → Fin 1024 → EReal) (c : Fin 1024) : EReal :=
  ((∑ k, e k * w k c) - ∑ k, e k * ((∑ x, w k x) * Ideal.ofBits FTy.f32 0x3A800000#32))
    * Ideal.rsqrt (max ((∑ x, (∑ k, e k * w k x) * (∑ k, e k * w k x)) * Ideal.ofBits FTy.f32 0x3A800000#32
        - (∑ k, e k * ((∑ x, w k x) * Ideal.ofBits FTy.f32 0x3A800000#32)) * (∑ k, e k * ((∑ x, w k x) * Ideal.ofBits FTy.f32 0x3A800000#32)))
      (Ideal.ofBits FTy.f32 0x00000000#32) + Ideal.ofBits FTy.f32 0x2B8CBCCC#32)

/-- The mean of a row, as the reference takes it. -/
def refMean (h : Fin 1024 → EReal) : EReal := Ideal.div (∑ x, h x) (Ideal.ofBits FTy.f32 0x44800000#32)

/-- The variance of a row, as the reference takes it; `z` stands where the count is not positive. -/
def refVar (z : EReal) (h : Fin 1024 → EReal) : EReal :=
  if 0 < Ideal.ofBits FTy.f32 0x44800000#32 - FloatOps.sitofp (F := Ideal) FTy.f32 0#32 then
    Ideal.div (∑ x, (h x - refMean h) * (h x - refMean h)) (Ideal.ofBits FTy.f32 0x44800000#32 - FloatOps.sitofp (F := Ideal) FTy.f32 0#32)
  else z

/-- The reference's row, before scale and shift. -/
def refRow (z : EReal) (h : Fin 1024 → EReal) (c : Fin 1024) : EReal :=
  Ideal.div (h c - refMean h) (Ideal.sqrt (refVar z h + Ideal.ofBits FTy.f32 0x2B8CBCCC#32))

/-- The word of 1/1024. -/
theorem bits_inv : Ideal.ofBits FTy.f32 0x3A800000#32 = ((1 / 1024 : ℝ) : EReal) := by
  simp [Ideal.ofBits, Ideal.ieee, -EReal.coe_mul]; norm_num

/-- The word of 1024. -/
theorem bits_count : Ideal.ofBits FTy.f32 0x44800000#32 = ((1024 : ℝ) : EReal) := by
  simp [Ideal.ofBits, Ideal.ieee, -EReal.coe_mul]; norm_num

/-- The word of zero. -/
theorem bits_zero : Ideal.ofBits FTy.f32 0x00000000#32 = ((0 : ℝ) : EReal) := by
  simp [Ideal.ofBits, Ideal.ieee, -EReal.coe_mul]

/-- The constant added under the root is a positive real. -/
theorem bits_eps : ∃ ε : ℝ, 0 < ε ∧ Ideal.ofBits FTy.f32 0x2B8CBCCC#32 = (ε : EReal) := by
  refine ⟨9223372 / 2 ^ 63, by positivity, ?_⟩
  simp [Ideal.ofBits, Ideal.ieee, -EReal.coe_mul]; norm_num

/-- The reference's count of columns. -/
theorem bits_less : Ideal.ofBits FTy.f32 0x44800000#32 - FloatOps.sitofp (F := Ideal) FTy.f32 0#32 = ((1024 : ℝ) : EReal) := by
  rw [bits_count]
  show ((1024 : ℝ) : EReal) - (((0#32 : BitVec 32).toInt : ℝ) : EReal) = _
  simp

/-- A quotient of reals is real. -/
theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A sum of reals is real. -/
theorem coe_sum {n : Nat} (f : Fin n → ℝ) : ∑ k, ((f k : ℝ) : EReal) = ((∑ k, f k : ℝ) : EReal) :=
  (map_sum (⟨⟨fun x : ℝ => (x : EReal), EReal.coe_zero⟩, EReal.coe_add⟩ : ℝ →+ EReal) f Finset.univ).symm

/-- The reference's mean of a real row. -/
theorem refMean_coe (h : Fin 1024 → ℝ) : refMean (fun x => (h x : EReal)) = (((∑ x, h x) / 1024 : ℝ) : EReal) := by
  unfold refMean
  rw [coe_sum, bits_count, div_coe _ (by norm_num)]

/-- The reference's variance of a real row. -/
theorem refVar_coe (z : EReal) (h : Fin 1024 → ℝ) :
    refVar z (fun x => (h x : EReal)) = (((∑ x, (h x - (∑ x, h x) / 1024) * (h x - (∑ x, h x) / 1024)) / 1024 : ℝ) : EReal) := by
  unfold refVar
  simp only [bits_less, refMean_coe]
  rw [if_pos (by exact_mod_cast (by norm_num : (0 : ℝ) < 1024))]
  simp only [← EReal.coe_sub, ← EReal.coe_mul]
  rw [coe_sum, div_coe _ (by norm_num)]

/-- The mean of the squares less the square of the mean is the mean of the squared distances from the mean. -/
theorem var_eq (h : Fin 1024 → ℝ) :
    (∑ x, h x * h x) * (1 / 1024) - (∑ x, h x) / 1024 * ((∑ x, h x) / 1024)
      = (∑ x, (h x - (∑ x, h x) / 1024) * (h x - (∑ x, h x) / 1024)) / 1024 := by
  generalize hm : (∑ x, h x) / 1024 = m
  have hs : ∑ x, h x = 1024 * m := by rw [← hm]; ring
  have : ∀ x, (h x - m) * (h x - m) = h x * h x - 2 * m * h x + m * m := fun x => by ring
  simp only [this, Finset.sum_add_distrib, Finset.sum_sub_distrib, ← Finset.mul_sum, hs, Finset.sum_const, Finset.card_univ, Fintype.card_fin, nsmul_eq_mul]
  push_cast
  ring

/-- The product with the row means of the weights is the mean of the products. -/
theorem mean_eq (e : Fin 256 → ℝ) (w : Fin 256 → Fin 1024 → ℝ) :
    ∑ k, e k * ((∑ x, w k x) * (1 / 1024)) = (∑ x, ∑ k, e k * w k x) / 1024 := by
  rw [Finset.sum_comm, Finset.sum_div]
  refine Finset.sum_congr rfl fun k _ => ?_
  rw [← Finset.mul_sum]
  ring

/-- On real operands the kernel's row is the reference's. -/
theorem row_eq (z : EReal) (e : Fin 256 → ℝ) (w : Fin 256 → Fin 1024 → ℝ) (c : Fin 1024) :
    kerRow (fun k => (e k : EReal)) (fun k x => (w k x : EReal)) c
      = refRow z (fun x => ∑ k, (e k : EReal) * (w k x : EReal)) c := by
  obtain ⟨ε, hε, hb⟩ := bits_eps
  have hh : ∀ x, ∑ k, (e k : EReal) * (w k x : EReal) = ((∑ k, e k * w k x : ℝ) : EReal) := fun x => by
    simp only [← EReal.coe_mul, coe_sum]
  unfold kerRow refRow
  simp only [hh, refMean_coe, refVar_coe, bits_inv, bits_zero, hb, ← EReal.coe_mul, coe_sum, ← EReal.coe_sub, mean_eq, var_eq]
  generalize hv : (∑ x, (∑ k, e k * w k x - (∑ x, ∑ k, e k * w k x) / 1024) * (∑ k, e k * w k x - (∑ x, ∑ k, e k * w k x) / 1024)) / 1024 = v
  have hv0 : 0 ≤ v := by
    rw [← hv]
    exact div_nonneg (Finset.sum_nonneg fun x _ => mul_self_nonneg _) (by norm_num)
  have hp : 0 < v + ε := by positivity
  rw [max_eq_left (by exact_mod_cast hv0), ← EReal.coe_add]
  have hr : Ideal.rsqrt ((v + ε : ℝ) : EReal) = (((√(v + ε))⁻¹ : ℝ) : EReal) := by
    show (if v + ε < 0 then (⊥ : EReal) else if v + ε = 0 then ⊤ else _) = _
    rw [if_neg (not_lt.mpr hp.le), if_neg hp.ne']
  have hq : Ideal.sqrt ((v + ε : ℝ) : EReal) = ((√(v + ε) : ℝ) : EReal) := by
    show (if v + ε < 0 then (⊥ : EReal) else _) = _
    rw [if_neg (not_lt.mpr hp.le)]
  rw [hr, hq, div_coe _ (Real.sqrt_pos.mpr hp).ne', ← EReal.coe_mul]
  exact congrArg _ (div_eq_mul_inv _ _).symm

end Cert.Proof.Row
-- ==== Proof.RefForm.lean ====
module
public import proofs.«01_k».proof.Proof.Gen.ReferenceIdeal.Run
public import Idealize.ShloMosaic.Lib.Pointwise
public import proofs.«01_k».proof.Proof.Words
public import proofs.«01_k».proof.Proof.Row
@[expose] public section

noncomputable section

/-! The reference's result as a chain of named stages: the rows taken from the two tables, the hidden array, and its
    normalisation along the last axis. -/

namespace Cert.Proof.Ref

open Idealize.ShloMosaic Idealize.ShloMosaic.TcCoe
open Cert.ReferenceIdeal Cert.ReferenceIdeal.Gen

variable {F : FTy → Type} [FloatOps F]

/-- An index array with `n` added to its negative entries, in the shape a gather takes its start indices. -/
def starts (n : BitVec 32) (ids : IVec S1024x200 32) : IVec S1024x200x1 32 :=
  broadcastInDim S1024x200x1 ![0, 1] bcast_S1024x200_S1024x200x1_0_1 (select (cmpi .slt ids (broadcastInDim S1024x200 ![] bcast_S_S1024x200 (constantI S_ 32 0#32))) (addi ids (broadcastInDim S1024x200 ![] bcast_S_S1024x200 (constantI S_ 32 n))) ids)

/-- Where the start indices lie between 0 and `top`. -/
def inside (top : BitVec 32) (v : IVec S1024x200x1 32) : IVec S1024x200 1 :=
  Host.reduce IntOp.andi (andi (cmpi .sge v (broadcastInDim S1024x200x1 ![] bcast_S_S1024x200x1 (constantI S_ 32 0#32))) (cmpi .sle v (broadcastInDim S1024x200x1 ![0, 1, 2] bcast_S1x1x1_S1024x200x1_0_1_2 (broadcastInDim S1x1x1 ![2] bcast_S1_S1x1x1_2 (constantI S1 32 top))))) (constantI S_ 1 1#1) reducesTo_S1024x200x1_S1024x200_d2 h_S_

/-- The gathered rows where the index is inside, a quiet NaN elsewhere. -/
def filled (ok : IVec S1024x200 1) (rows : Vec F S1024x200x128 .f32) : Vec F S1024x200x128 .f32 :=
  select (broadcastInDim S1024x200x128 ![0, 1] bcast_S1024x200_S1024x200x128_0_1 ok) rows (broadcastInDim S1024x200x128 ![] bcast_S_S1024x200x128 (constant S_ .f32 0x7FC00000#32))

/-- The first table's rows at the identifiers. -/
def idRows (ids : IVec S1024x200 32) (tab : Vec F S100000x128 .f32) : Vec F S1024x200x128 .f32 :=
  filled (inside 99999#32 (starts 100000#32 ids)) (Host.gather gather_S100000x128_S1024x200x1_S1024x200x128_2_0_n_n_0_2_1128 tab (starts 100000#32 ids))

/-- The elapsed times plus one, cut to the interval from 0 to 300. -/
def cut (el : IVec S1024x200 32) : IVec S1024x200 32 :=
  minsi (broadcastInDim S1024x200 ![] bcast_S_S1024x200 (id (constantI S_ 32 300#32))) (maxsi (broadcastInDim S1024x200 ![] bcast_S_S1024x200 (id (constantI S_ 32 0#32))) (addi el (broadcastInDim S1024x200 ![] bcast_S_S1024x200 (constantI S_ 32 1#32))))

/-- The second table's rows at the cut elapsed times. -/
def timeRows (el : IVec S1024x200 32) (tab : Vec F S301x128 .f32) : Vec F S1024x200x128 .f32 :=
  filled (inside 300#32 (starts 301#32 (cut el))) (Host.gather gather_S301x128_S1024x200x1_S1024x200x128_2_0_n_n_0_2_1128 tab (starts 301#32 (cut el)))

/-- The two rows side by side, times the weights, plus the bias. -/
def hidden (a t : Vec F S1024x200x128 .f32) (W : Vec F S256x1024 .f32) (b : Vec F S1024 .f32) : Vec F S1024x200x1024 .f32 :=
  addf (Host.dotGeneral dot_S1024x200x256_S256x1024_S1024x200x1024_2_0_01_1_n_n none (concatenate S1024x200x256 2 [⟨S1024x200x128, a⟩, ⟨S1024x200x128, t⟩] concatenates_S1024x200x128_S1024x200x128_S1024x200x256_d2) W)
    (broadcastInDim S1024x200x1024 ![0, 1, 2] bcast_S1x1x1024_S1024x200x1024_0_1_2 (broadcastInDim S1x1x1024 ![2] bcast_S1024_S1x1x1024_2 b))

/-- The mean along the last axis. -/
def mean (h : Vec F S1024x200x1024 .f32) : Vec F S1024x200x1 .f32 :=
  Host.divf (broadcastInDim S1024x200x1 ![0, 1] bcast_S1024x200_S1024x200x1_0_1 (Host.reduceAdd h (constant S_ .f32 0x00000000#32) reducesTo_S1024x200x1024_S1024x200_d2 h_S_)) (broadcastInDim S1024x200x1 ![] bcast_S_S1024x200x1 (constant S_ .f32 0x44800000#32))

/-- The array less its mean. -/
def centred (h : Vec F S1024x200x1024 .f32) : Vec F S1024x200x1024 .f32 :=
  subf h (broadcastInDim S1024x200x1024 ![0, 1, 2] bcast_S1024x200x1_S1024x200x1024_0_1_2 (mean h))

/-- The number of columns, from which the variance subtracts the integer zero. -/
def count : Vec F S_ .f32 := subf (constant S_ .f32 0x44800000#32) (sitofp .f32 (constantI S_ 32 0#32))

/-- The variance along the last axis. -/
def variance (h : Vec F S1024x200x1024 .f32) : Vec F S1024x200x1 .f32 :=
  select (broadcastInDim S1024x200x1 ![] bcast_S_S1024x200x1 (cmpf .ogt (count (F := F)) (constant S_ .f32 0x00000000#32)))
    (Host.divf (broadcastInDim S1024x200x1 ![0, 1] bcast_S1024x200_S1024x200x1_0_1 (Host.reduceAdd (mulf (centred h) (centred h)) (constant S_ .f32 0x00000000#32) reducesTo_S1024x200x1024_S1024x200_d2 h_S_)) (broadcastInDim S1024x200x1 ![] bcast_S_S1024x200x1 count))
    (broadcastInDim S1024x200x1 ![] bcast_S_S1024x200x1 (id (constant S_ .f32 0x7FC00000#32)))

/-- The normalised array, scaled and shifted. -/
def normed (h : Vec F S1024x200x1024 .f32) (g s : Vec F S1024 .f32) : Vec F S1024x200x1024 .f32 :=
  addf (mulf (Host.divf (centred h) (broadcastInDim S1024x200x1024 ![0, 1, 2] bcast_S1024x200x1_S1024x200x1024_0_1_2 (Host.sqrt (addf (variance h) (broadcastInDim S1024x200x1 ![] bcast_S_S1024x200x1 (constant S_ .f32 0x2B8CBCCC#32))))))
    (broadcastInDim S1024x200x1024 ![0, 1, 2] bcast_S1x1x1024_S1024x200x1024_0_1_2 (broadcastInDim S1x1x1024 ![2] bcast_S1024_S1x1x1024_2 g)))
    (broadcastInDim S1024x200x1024 ![0, 1, 2] bcast_S1x1x1024_S1024x200x1024_0_1_2 (broadcastInDim S1x1x1024 ![2] bcast_S1024_S1x1x1024_2 s))

/-- The reference's result is the chain of stages. -/
theorem res_eq (m : (ℓ : Loc nD τ sig) → Buf (Elt F) ℓ) (c : Dev nD) :
    Value.res_main_v27 m c = normed (hidden (idRows (m (c.tc.loc main_arg0)) (m (c.tc.loc main_arg2))) (timeRows (m (c.tc.loc main_arg1)) (m (c.tc.loc main_arg3))) (m (c.tc.loc main_arg4)) (m (c.tc.loc main_arg5)))
      (m (c.tc.loc main_arg6)) (m (c.tc.loc main_arg7)) := rfl

set_option maxRecDepth 16384

/-- The gather's dimension numbers for a table of `N` rows. -/
abbrev rowDims (N : Nat) (wf : GatherDims.WF ⟨2, ![N, 128]⟩ S1024x200x1 S1024x200x128 [2] [0] [] [0] [] 2 ![1, 128]) :
    GatherDims ⟨2, ![N, 128]⟩ S1024x200x1 S1024x200x128 where
  offsetDims := [2]
  collapsedSliceDims := [0]
  operandBatchingDims := []
  startIndicesBatchingDims := []
  startIndexMap := [0]
  indexVectorDim := 2
  sliceSizes := ![1, 128]
  wf := wf

/-- The gather at an index: the table's row at the start index, read signed and cut to the rows there are. -/
theorem gather_apply {α : Type} {N : Nat} (hN : 0 < N)
    (wf : GatherDims.WF ⟨2, ![N, 128]⟩ S1024x200x1 S1024x200x128 [2] [0] [] [0] [] 2 ![1, 128])
    (x : (⟨2, ![N, 128]⟩ : Shape).Idx → α) (v : IVec S1024x200x1 32) (i : Fin 1024) (j : Fin 200) (k : Fin 128) :
    Host.gather (rowDims N wf) x v (ix3 i j k) = x (ix2 ⟨min (v (ix3 i j 0)).toInt.toNat (N - 1), by omega⟩ k) := by
  unfold Host.gather
  congr 1
  funext a
  refine Fin.ext ?_
  show (rowDims N wf).start (ix3 i j k) v a + (rowDims N wf).batchCoord (ix3 i j k) a + (rowDims N wf).offCoord (ix3 i j k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix3 i j k) ⟨List.idxOf (0 : Fin 2) (rowDims N wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    have hs : (rowDims N wf).start (ix3 i j k) v 1 = 0 := by
      unfold GatherDims.start
      rw [dif_neg (fun h => Nat.one_ne_zero (congrArg Fin.val (List.mem_singleton.mp h)))]
    rw [hs]
    simp only [Nat.add_zero, Nat.zero_add]
    rfl

/-- The gather at a start index that is small: the table's row of that number. -/
theorem gather_small {α : Type} {N : Nat}
    (wf : GatherDims.WF ⟨2, ![N, 128]⟩ S1024x200x1 S1024x200x128 [2] [0] [] [0] [] 2 ![1, 128])
    (x : (⟨2, ![N, 128]⟩ : Shape).Idx → α) (v : IVec S1024x200x1 32) (i : Fin 1024) (j : Fin 200) (k : Fin 128)
    (hN : N ≤ 2 ^ 31) (h : (v (ix3 i j 0)).toNat < N) :
    Host.gather (rowDims N wf) x v (ix3 i j k) = x (ix2 ⟨(v (ix3 i j 0)).toNat, h⟩ k) := by
  rw [gather_apply (by omega)]
  have : min (v (ix3 i j 0)).toInt.toNat (N - 1) = (v (ix3 i j 0)).toNat := by
    rw [toInt_of_small (by omega), Int.toNat_natCast]
    omega
  simp only [this]

/-- The cut times, at a place. -/
theorem cut_apply (el : IVec S1024x200 32) (i : Fin 1024) (j : Fin 200) : cut el (ix2 i j) = cutWord (el (ix2 i j)) := by
  pointwise [cut]
  rfl

/-- A small start index is the index itself. -/
theorem starts_apply (n : BitVec 32) (v : IVec S1024x200 32) (i : Fin 1024) (j : Fin 200) (h : (v (ix2 i j)).toNat < 2 ^ 31) :
    starts n v (ix3 i j 0) = v (ix2 i j) := by
  pointwise [starts]
  exact wrap_small n h

/-- A small start index is inside. -/
theorem inside_apply (n : BitVec 32) (v : IVec S1024x200x1 32) (i : Fin 1024) (j : Fin 200)
    (h : (v (ix3 i j 0)).toNat ≤ n.toNat) (hn : n.toNat < 2 ^ 31) : inside n v (ix2 i j) = 1#1 := by
  pointwise [inside]
  rw [Finset.univ_unique, Finset.fold_singleton]
  have := inside_small h hn
  rw [show (default : Fin 1) = 0 from rfl, this]
  rfl

/-- The gathered rows with the missing ones filled, at a place. -/
theorem filled_apply (ok : IVec S1024x200 1) (rows : Vec Ideal S1024x200x128 .f32) (i : Fin 1024) (j : Fin 200) (k : Fin 128)
    (h : ok (ix2 i j) = 1#1) : filled ok rows (ix3 i j k) = rows (ix3 i j k) := by
  pointwise [filled]
  rw [h]
  rfl

/-- The first table's rows: at identifiers below the number of rows, the row of that number. -/
theorem idRows_apply (ids : IVec S1024x200 32) (tab : Vec Ideal S100000x128 .f32) (i : Fin 1024) (j : Fin 200) (k : Fin 128)
    (h : (ids (ix2 i j)).toNat < 100000) : idRows ids tab (ix3 i j k) = tab (ix2 ⟨(ids (ix2 i j)).toNat, h⟩ k) := by
  have hs := starts_apply 100000#32 ids i j (by omega)
  unfold idRows
  rw [filled_apply _ _ _ _ _ (inside_apply _ _ _ _ (by rw [hs]; show _ ≤ 99999; omega) (by decide))]
  refine (gather_small _ tab (starts 100000#32 ids) i j k (by norm_num) (by rw [hs]; exact h)).trans ?_
  simp only [hs]

/-- The second table's rows: the row of the cut time. -/
theorem timeRows_apply (el : IVec S1024x200 32) (tab : Vec Ideal S301x128 .f32) (i : Fin 1024) (j : Fin 200) (k : Fin 128) :
    timeRows el tab (ix3 i j k) = tab (ix2 ⟨(cutWord (el (ix2 i j))).toNat, Nat.lt_succ_of_le (cut_le _)⟩ k) := by
  have hc := cut_apply el i j
  have hl := cut_le (el (ix2 i j))
  have hs := starts_apply 301#32 (cut el) i j (by rw [hc]; omega)
  rw [hc] at hs
  unfold timeRows
  rw [filled_apply _ _ _ _ _ (inside_apply _ _ _ _ (by rw [hs]; exact hl) (by decide))]
  refine (gather_small _ tab (starts 301#32 (cut el)) i j k (by norm_num) (by rw [hs]; omega)).trans ?_
  simp only [hs]

/-- Two rows of 128 entries side by side. -/
def join {α : Type} (a t : Fin 128 → α) (k : Fin 256) : α := if h : k.val < 128 then a ⟨k.val, h⟩ else t ⟨k.val - 128, by omega⟩

/-- The projection, at a place. -/
theorem hidden_apply (a t : Vec Ideal S1024x200x128 .f32) (W : Vec Ideal S256x1024 .f32) (b : Vec Ideal S1024 .f32) (i : Fin 1024) (j : Fin 200) (k : Fin 1024) :
    hidden a t W b (ix3 i j k) = (∑ x : Fin 256, join (fun y => a (ix3 i j y)) (fun y => t (ix3 i j y)) x * W (ix2 x k)) + b (ix1 k) := by
  pointwise [hidden]
  congr 1
  rw [show (∑ x : Fin 256, join (fun y => a (ix3 i j y)) (fun y => t (ix3 i j y)) x * W (ix2 x k)) = _ from
    Fin.sum_univ_add (a := 128) (b := 128) _]
  refine congrArg₂ (· + ·) (Finset.sum_congr rfl fun x _ => ?_) (Finset.sum_congr rfl fun x _ => ?_)
  · have : (Fin.castAdd 128 x).val < 128 := x.isLt
    simp only [join, dif_pos this]
    rfl
  · have : ¬ (Fin.natAdd 128 x).val < 128 := by simp
    refine congrArg (· * _) ?_
    rw [join, dif_neg this]
    simp only [Fin.val_natAdd, Nat.add_sub_cancel_left]

/-- The mean, at a place. -/
theorem mean_apply (h : Vec Ideal S1024x200x1024 .f32) (i : Fin 1024) (j : Fin 200) : mean h (ix3 i j 0) = Row.refMean fun x => h (ix3 i j x) := by
  pointwise [mean]
  rfl

/-- The centred row, at a place. -/
theorem centred_apply (h : Vec Ideal S1024x200x1024 .f32) (i : Fin 1024) (j : Fin 200) (k : Fin 1024) :
    centred h (ix3 i j k) = h (ix3 i j k) - Row.refMean fun x => h (ix3 i j x) := by
  pointwise [centred]
  rw [mean_apply]

/-- What the variance holds where the count is not positive; the count is 1024, so it is never taken. -/
def spare : EReal := id (constant (F := Ideal) S_ FTy.f32 0x7FC00000#32) ix0

/-- The variance, at a place. -/
theorem variance_apply (h : Vec Ideal S1024x200x1024 .f32) (i : Fin 1024) (j : Fin 200) :
    variance h (ix3 i j 0) = Row.refVar spare fun x => h (ix3 i j x) := by
  pointwise [variance, count]
  simp only [centred_apply]
  rfl

/-- The reference's result at an index: its row's entry, scaled and shifted. -/
theorem normed_apply (h : Vec Ideal S1024x200x1024 .f32) (g s : Vec Ideal S1024 .f32) (i : Fin 1024) (j : Fin 200) (k : Fin 1024) :
    normed h g s (ix3 i j k) = Row.refRow spare (fun x => h (ix3 i j x)) k * g (ix1 k) + s (ix1 k) := by
  pointwise [normed]
  rw [variance_apply, centred_apply]
  rfl

/-- The chain of stages at an index: with the bias zero, the scale one and the shift zero, the row of the two tables' rows
    side by side times the weights. -/
theorem chain_apply (ids el : IVec S1024x200 32) (tab : Vec Ideal S100000x128 .f32) (tt : Vec Ideal S301x128 .f32)
    (W : Vec Ideal S256x1024 .f32) (b g s : Vec Ideal S1024 .f32) (i : Fin 1024) (j : Fin 200) (k : Fin 1024)
    (hid : (ids (ix2 i j)).toNat < 100000) (hb : ∀ x, b x = (0 : EReal)) (hg : ∀ x, g x = (1 : EReal)) (hs : ∀ x, s x = (0 : EReal)) :
    normed (hidden (idRows ids tab) (timeRows el tt) W b) g s (ix3 i j k) = Row.refRow spare (fun x => ∑ y : Fin 256,
      join (fun z => tab (ix2 ⟨_, hid⟩ z)) (fun z => tt (ix2 ⟨(cutWord (el (ix2 i j))).toNat, Nat.lt_succ_of_le (cut_le _)⟩ z)) y
        * W (ix2 y x)) k := by
  rw [normed_apply, hg, hs, mul_one, add_zero]
  refine congrArg (fun f => Row.refRow spare f k) (funext fun x => ?_)
  rw [hidden_apply, hb, add_zero]
  refine Finset.sum_congr rfl fun y _ => congrArg (· * W (ix2 y x)) ?_
  exact congrArg₂ (fun a t => join a t y) (funext fun z => idRows_apply _ _ _ _ _ hid) (funext fun z => timeRows_apply _ _ _ _ _)

end Cert.Proof.Ref
-- ==== Proof.Block.lean ====
module
public import proofs.«01_k».proof.Proof.TcBody
public import proofs.«01_k».proof.Proof.RefForm
@[expose] public section

noncomputable section

/-! What the TensorCore's kernels store, entry by entry over the extended reals: the weights' row means, and one row of
    the normalisation per row of the block. -/

namespace Cert.Proof.Block

open Idealize.ShloMosaic
open Cert.KernelIdeal Cert.KernelIdeal.Gen
open Cert.Proof.Ker Cert.Proof.Ref

set_option maxRecDepth 16384

/-- The first kernel's entry: the mean of the weights' row. -/
theorem means_apply (W : Vec Ideal S256x1024 .f32) (k : Fin 256) (l : Fin 128) :
    k0_pay1 W (ix2 k l) = (∑ x, W (ix2 k x)) * Ideal.ofBits FTy.f32 0x3A800000#32 := by
  pointwise [k0_pay1]

variable (x0 : Vec Ideal S32x128x128 .f32) (x1 : Vec Ideal S1x1x4096 .i32) (x2 : Vec Ideal S304x128 .bf16) (x3 : Vec Ideal S256x1024 .bf16)
  (x4 : Vec Ideal S256x128 .bf16)

/-- The cut time names a row of the padded table of times. -/
theorem cut_lt (t : BitVec 32) : (cutWord t).toNat < 304 := by have := cut_le t; omega

/-- Row `r` of the block's embedded entries: its gathered row and, beside it, the time table's row at its cut time. -/
def embed (r : Fin 4096) : Fin 256 → EReal :=
  join (fun z => x0 (ix3 ⟨r.val / 128, by omega⟩ ⟨r.val % 128, by omega⟩ z)) (fun z => x2 (ix2 ⟨(cutWord (x1 (ix3 0 0 r))).toNat, cut_lt _⟩ z))

/-- A row of the joined embeddings, at an entry. -/
theorem pay2_apply (r : Fin 4096) (k : Fin 256) : k4_pay2 x1 x2 x0 (ix2 r k) = embed x0 x1 x2 r k := by
  pointwise [k4_pay2]
  simp only [cut_swap]
  unfold embed join
  by_cases h : k.val < 128
  · simp only [dif_pos h]
  · simp only [dif_neg h]
    exact oneHot_sum (n := 304) (by norm_num) (fun x => x2 (ix2 x ⟨k.val - 128, by omega⟩)) (cut_lt _)

/-- The projected row at a column: the sum over the embedded entries. -/
theorem pay3_apply (r : Fin 4096) (c : Fin 1024) : k4_pay3 x1 x2 x0 x3 (ix2 r c) = ∑ k, embed x0 x1 x2 r k * x3 (ix2 k c) := by
  pointwise [k4_pay3]
  simp only [pay2_apply]

/-- The row's mean: the embedded entries against the column of means. -/
theorem pay4_apply (r : Fin 4096) : k4_pay4 x1 x2 x0 x4 (ix2 r 0) = ∑ k, embed x0 x1 x2 r k * x4 (ix2 k 0) := by
  pointwise [k4_pay4]
  simp only [pay2_apply]

/-- The reciprocal root of the row's variance, taken as the mean of squares less the squared mean, cut at zero. -/
theorem pay5_apply (r : Fin 4096) : k4_pay5 x1 x2 x0 x3 x4 (ix2 r 0) =
    (∑ x, (∑ k, embed x0 x1 x2 r k * x3 (ix2 k x)) * (∑ k, embed x0 x1 x2 r k * x3 (ix2 k x))) * Ideal.ofBits FTy.f32 0x3A800000#32
      - (∑ k, embed x0 x1 x2 r k * x4 (ix2 k 0)) * (∑ k, embed x0 x1 x2 r k * x4 (ix2 k 0)) := by
  pointwise [k4_pay5]
  simp only [pay3_apply, pay4_apply]

/-- A block's entry: with the weights' row means in its last operand, the kernel's row of the embedded entries. -/
theorem tcBlock_apply (h4 : ∀ k, x4 (ix2 k 0) = (∑ x, x3 (ix2 k x)) * Ideal.ofBits FTy.f32 0x3A800000#32) (r : Fin 4096) (c : Fin 1024) :
    tcBlock x0 x1 x2 x3 x4 (ix2 r c) = Row.kerRow (embed x0 x1 x2 r) (fun k x => x3 (ix2 k x)) c := by
  unfold tcBlock
  pointwise [k4_pay1]
  rw [pay3_apply, pay4_apply, pay5_apply]
  simp only [h4]
  unfold Row.kerRow
  rw [Row.bits_zero, EReal.coe_zero]

/-- The kernel's row at a place `p` of the two index arrays. -/
def rowAt (ids els : S1024x200.Idx → BitVec 32) (tab : S100000x128.Idx → EReal) (tt : S301x128.Idx → EReal) (W : S256x1024.Idx → EReal)
    (p : S1024x200.Idx) (c : Fin 1024) : EReal :=
  Row.kerRow (join (fun z => tab (ix2 ⟨(ids p).toNat % 100000, Nat.mod_lt _ (by decide)⟩ z))
    (fun z => tt (ix2 ⟨(cutWord (els p)).toNat, Nat.lt_succ_of_le (cut_le _)⟩ z))) (fun k x => W (ix2 k x)) c

variable {x0 x1 x2 x3 x4}

/-- A block whose operands hold, at row `r`, what belongs to the place `p` stores there the kernel's row at `p`. -/
theorem tcBlock_row {ids els : S1024x200.Idx → BitVec 32} {tab : S100000x128.Idx → EReal} {tt : S301x128.Idx → EReal} {W : S256x1024.Idx → EReal}
    (p : S1024x200.Idx) (r : Fin 4096) (c : Fin 1024)
    (h0 : ∀ z, x0 (ix3 ⟨r.val / 128, by omega⟩ ⟨r.val % 128, by omega⟩ z) = tab (ix2 ⟨(ids p).toNat % 100000, Nat.mod_lt _ (by decide)⟩ z))
    (h1 : x1 (ix3 0 0 r) = els p)
    (h2 : ∀ (q : Fin 301) z, x2 (ix2 ⟨q.val, by omega⟩ z) = tt (ix2 q z))
    (h3 : ∀ k x, x3 (ix2 k x) = W (ix2 k x))
    (h4 : ∀ k, x4 (ix2 k 0) = (∑ x, W (ix2 k x)) * Ideal.ofBits FTy.f32 0x3A800000#32) :
    tcBlock x0 x1 x2 x3 x4 (ix2 r c) = rowAt ids els tab tt W p c := by
  rw [tcBlock_apply x0 x1 x2 x3 x4 (fun k => by rw [h4]; simp only [h3]) r c]
  unfold rowAt
  refine congrArg₂ (fun e w => Row.kerRow e w c) ?_ (funext fun k => funext fun x => h3 k x)
  unfold embed
  simp only [h1]
  exact congrArg₂ join (funext h0) (funext fun z => h2 ⟨(cutWord (els p)).toNat, Nat.lt_succ_of_le (cut_le _)⟩ z)

end Cert.Proof.Block
-- ==== Proof.Chunks.lean ====
module
public import proofs.«01_k».proof.Proof.Cuts
public import proofs.«01_k».proof.Proof.Block
public import Idealize.ShloMosaic.Lib.Pipeline.ValueKit
@[expose] public section

noncomputable section

/-! What the dense pipelines leave: each chunk's rows are the kernel's rows at their tokens, where the operands hold what
belongs to the tokens. -/

namespace Cert.Proof.Block

open Idealize.ShloMosaic Idealize.ShloMosaic.TcCoe Idealize.SL.Sem
open Idealize.ShloMosaic.SparseCore.Cfg (HIx)
open Idealize.ShloMosaic.Rounds
open Cert.KernelIdeal Cert.KernelIdeal.Gen
open Cert.Proof.Ker Cert.Proof.Ref

set_option maxRecDepth 16384

variable {ids els : S1024x200.Idx → BitVec 32} {tab : S100000x128.Idx → EReal} {tt : S301x128.Idx → EReal} {W : S256x1024.Idx → EReal}
variable (V : Dev nD → Valuation τ sig (Elt Ideal)) (O : Dev nD → CellTallies nD τ sig (HIx 3)) (b : ℕ) (d : Dev nD)

/-- The kernel's row at the token of an output row. -/
def rowsOut (ids els : S1024x200.Idx → BitVec 32) (tab : S100000x128.Idx → EReal) (tt : S301x128.Idx → EReal) (W : S256x1024.Idx → EReal)
    (i : S204800x1024.Idx) : EReal := rowAt ids els tab tt W (tok (i 0).val (i 0).isLt) (i 1)

/-- What the dense operands that all chunks share hold. -/
structure Shared (tt : S301x128.Idx → EReal) (W : S256x1024.Idx → EReal) (U : Valuation τ sig (Elt Ideal)) : Prop where
  times : ∀ (q : Fin 301) (z : Fin 128), U (Proc.devRef .tc main_v3) (ix2 (⟨q.val, by omega⟩ : Fin 304) z) = tt (ix2 q z)
  weights : ∀ (k : Fin 256) (x : Fin 1024), U (Proc.devRef .tc main_v4) (ix2 k x) = W (ix2 k x)
  means : ∀ k : Fin 256, U (Proc.devRef .tc main_v5) (ix2 k (0 : Fin 128)) = (∑ x, W (ix2 k x)) * Ideal.ofBits FTy.f32 0x3A800000#32

/-- Equal numbers, equal tokens. -/
theorem tok_congr {R R' : ℕ} {h : R < 204800} {h' : R' < 204800} (e : R = R') : tok R h = tok R' h' := by subst e; rfl

/-- An index of a block, from its two coordinates. -/
theorem pair_eq (y : S4096x1024.Idx) : y = ix2 (y 0 : Fin 4096) (y 1 : Fin 1024) :=
  funext fun a => match a with | ⟨0, _⟩ => rfl | ⟨1, _⟩ => rfl

/-- What a chunk's own operands hold: the gathered rows and the times of the tokens from `off` on, as `n` blocks of 4096. -/
structure Chunk (ids els : S1024x200.Idx → BitVec 32) (tab : S100000x128.Idx → EReal) {off n k : ℕ} (hk : k = 32 * n) (hn : off + 4096 * n ≤ 204800)
    (G : (⟨3, ![k, 128, 128]⟩ : Shape).Idx → EReal) (T : (⟨3, ![n, 1, 4096]⟩ : Shape).Idx → BitVec 32) : Prop where
  rows : ∀ (x : Fin k) (y z : Fin 128), G (ix3 x y z)
    = tab (ix2 ⟨(ids (tok (off + 128 * x.val + y.val) (by omega))).toNat % 100000, Nat.mod_lt _ (by decide)⟩ z)
  times : ∀ (t : Fin n) (r : Fin 4096), T (ix3 t (0 : Fin 1) r) = els (tok (off + 4096 * t.val + r.val) (by omega))

/-- A block whose operands are read from a chunk's arrays, at the block's place, stores the kernel's rows at its tokens. -/
theorem block_row {off n k : ℕ} {hk : k = 32 * n} {hn : off + 4096 * n ≤ 204800} {G : (⟨3, ![k, 128, 128]⟩ : Shape).Idx → EReal}
    {T : (⟨3, ![n, 1, 4096]⟩ : Shape).Idx → BitVec 32} {U : Valuation τ sig (Elt Ideal)} (h : Chunk ids els tab hk hn G T) (hs : Shared tt W U)
    {x0 : Vec Ideal S32x128x128 .f32} {x1 : Vec Ideal S1x1x4096 .i32} {x2 : Vec Ideal S304x128 .bf16} {x3 : Vec Ideal S256x1024 .bf16}
    {x4 : Vec Ideal S256x128 .bf16} (t : Fin n) (r : Fin 4096) (c : Fin 1024)
    (e0 : ∀ z : Fin 128, x0 (ix3 (⟨r.val / 128, by omega⟩ : Fin 32) (⟨r.val % 128, by omega⟩ : Fin 128) z)
      = G (ix3 (⟨32 * t.val + r.val / 128, by omega⟩ : Fin k) (⟨r.val % 128, by omega⟩ : Fin 128) z))
    (e1 : x1 (ix3 (0 : Fin 1) (0 : Fin 1) r) = T (ix3 t (0 : Fin 1) r))
    (e2 : ∀ (q : Fin 304) (z : Fin 128), x2 (ix2 q z) = U (Proc.devRef .tc main_v3) (ix2 q z))
    (e3 : ∀ (q : Fin 256) (x : Fin 1024), x3 (ix2 q x) = U (Proc.devRef .tc main_v4) (ix2 q x))
    (e4 : ∀ q : Fin 256, x4 (ix2 q (0 : Fin 128)) = U (Proc.devRef .tc main_v5) (ix2 q (0 : Fin 128))) :
    tcBlock x0 x1 x2 x3 x4 (ix2 r c) = rowAt ids els tab tt W (tok (off + 4096 * t.val + r.val) (by omega)) c := by
  refine tcBlock_row _ r c (fun z => (e0 z).trans ((h.rows _ _ z).trans ?_)) (e1.trans (h.times t r)) (fun q z => (e2 _ z).trans (hs.times q z))
    (fun q x => (e3 q x).trans (hs.weights q x)) (fun q => (e4 q).trans (hs.means q))
  exact congrArg (fun p => tab (ix2 ⟨(ids p).toNat % 100000, Nat.mod_lt _ (by decide)⟩ z))
    (tok_congr (by show off + 128 * (32 * t.val + r.val / 128) + r.val % 128 = _; omega))

/-- A block of such rows, set at its place in the output, agrees with the output's rows. -/
theorem landed {S : S4096x1024.Idx → EReal} {R : ℕ} (hR : R + 4096 ≤ 204800)
    (hS : ∀ (r : Fin 4096) (c : Fin 1024), S (ix2 r c) = rowAt ids els tab tt W (tok (R + r.val) (by omega)) c)
    (y : S4096x1024.Idx) (j : S204800x1024.Idx) (h0 : (j 0).val = R + (y 0).val) (h1 : (j 1).val = (y 1).val) :
    S y = rowsOut ids els tab tt W j := by
  refine (congrArg S (pair_eq y)).trans ((hS _ _).trans ?_)
  exact congrArg₂ (rowAt ids els tab tt W) (tok_congr h0.symm) (Fin.ext h1.symm)

/-- The blocks' places in the first chunk. -/
theorem index4 : ∀ t : Fin cfg4.N, win4_0.index t = ![t.val, 0, 0] ∧ win4_1.index t = ![t.val, 0, 0] ∧ win4_2.index t = ![0, 0] ∧ win4_3.index t = ![0, 0]
    ∧ win4_4.index t = ![0, 0] ∧ win4_5.index t = ![t.val, 0] := by decide +kernel

/-- What the first chunk's pipeline leaves: the kernel's rows in rows 0 to 16383, the entry contents elsewhere. -/
theorem chunk1 (hs : Shared tt W (V d))
    (h : Chunk (off := 0) (n := 4) (k := 128) ids els tab rfl (by decide) (V d (Proc.devRef .tc main_v8)) (V d (Proc.devRef .tc main_v16))) :
    (dat4 V O b d).arrAt 5 cfg4.N = fun i : S204800x1024.Idx => if (i 0).val < 16384 then rowsOut ids els tab tt W i else V d (Proc.devRef .tc main_v17) i := by
  refine (dat4 V O b d).arrAt_eq_of_coversWhere 5 (rowsOut ids els tab tt W) (fun β => β 0 < 4) (by decide +kernel) (fun t hf y => ?_) (fun j => ?_)
  · obtain ⟨e0, e1, e2, e3, e4, e5⟩ := index4 t
    have ht : t.val < 4 := t.isLt
    refine landed (R := 0 + 4096 * t.val) (by omega) (fun r c => block_row h hs ⟨t.val, ht⟩ r c (fun z => ?_) ?_ (fun q z => ?_) (fun q x => ?_) (fun q => ?_)) y _ ?_ ?_
    · blk_ext [e0]
    · blk_ext [e1]
    · blk_ext [e2]
    · blk_ext [e3]
    · blk_ext [e4]
    · blk_simp [e5]
      omega
    · blk_simp [e5]
  · blk_simp [Pipeline.Window.cell_apply]
    omega

/-- The blocks' places in the second chunk. -/
theorem index5 : ∀ t : Fin cfg5.N, win5_0.index t = ![t.val, 0, 0] ∧ win5_1.index t = ![t.val, 0, 0] ∧ win5_2.index t = ![0, 0] ∧ win5_3.index t = ![0, 0]
    ∧ win5_4.index t = ![0, 0] ∧ win5_5.index t = ![t.val + 4, 0] := by decide +kernel

/-- What the second chunk's pipeline leaves: the kernel's rows in rows 16384 to 65535, the entry contents elsewhere. -/
theorem chunk2 (hs : Shared tt W (V d))
    (h : Chunk (off := 16384) (n := 12) (k := 384) ids els tab rfl (by decide) (V d (Proc.devRef .tc main_v11)) (V d (Proc.devRef .tc main_v19))) :
    (dat5 V O b d).arrAt 5 cfg5.N = fun i : S204800x1024.Idx => if 16384 ≤ (i 0).val ∧ (i 0).val < 65536 then rowsOut ids els tab tt W i else V d (Proc.devRef .tc main_v20) i := by
  refine (dat5 V O b d).arrAt_eq_of_coversWhere 5 (rowsOut ids els tab tt W) (fun β => 4 ≤ β 0 ∧ β 0 < 16) (by decide +kernel) (fun t hf y => ?_) (fun j => ?_)
  · obtain ⟨e0, e1, e2, e3, e4, e5⟩ := index5 t
    have ht : t.val < 12 := t.isLt
    refine landed (R := 16384 + 4096 * t.val) (by omega) (fun r c => block_row h hs ⟨t.val, ht⟩ r c (fun z => ?_) ?_ (fun q z => ?_) (fun q x => ?_) (fun q => ?_)) y _ ?_ ?_
    · blk_ext [e0]
    · blk_ext [e1]
    · blk_ext [e2]
    · blk_ext [e3]
    · blk_ext [e4]
    · blk_simp [e5]
      omega
    · blk_simp [e5]
  · blk_simp [Pipeline.Window.cell_apply]
    omega

/-- The blocks' places in the third chunk. -/
theorem index6 : ∀ t : Fin cfg6.N, win6_0.index t = ![t.val, 0, 0] ∧ win6_1.index t = ![t.val, 0, 0] ∧ win6_2.index t = ![0, 0] ∧ win6_3.index t = ![0, 0]
    ∧ win6_4.index t = ![0, 0] ∧ win6_5.index t = ![t.val + 16, 0] := by decide +kernel

/-- What the third chunk's pipeline leaves: the kernel's rows in rows from 65536 on, the entry contents elsewhere. -/
theorem chunk3 (hs : Shared tt W (V d))
    (h : Chunk (off := 65536) (n := 34) (k := 1088) ids els tab rfl (by decide) (V d (Proc.devRef .tc main_v14)) (V d (Proc.devRef .tc main_v22))) :
    (dat6 V O b d).arrAt 5 cfg6.N = fun i : S204800x1024.Idx => if 65536 ≤ (i 0).val then rowsOut ids els tab tt W i else V d (Proc.devRef .tc main_v23) i := by
  refine (dat6 V O b d).arrAt_eq_of_coversWhere 5 (rowsOut ids els tab tt W) (fun β => 16 ≤ β 0) (by decide +kernel) (fun t hf y => ?_) (fun j => ?_)
  · obtain ⟨e0, e1, e2, e3, e4, e5⟩ := index6 t
    have ht : t.val < 34 := t.isLt
    refine landed (R := 65536 + 4096 * t.val) (by omega) (fun r c => block_row h hs ⟨t.val, ht⟩ r c (fun z => ?_) ?_ (fun q z => ?_) (fun q x => ?_) (fun q => ?_)) y _ ?_ ?_
    · blk_ext [e0]
    · blk_ext [e1]
    · blk_ext [e2]
    · blk_ext [e3]
    · blk_ext [e4]
    · blk_simp [e5]
      omega
    · blk_simp [e5]
  · blk_simp [Pipeline.Window.cell_apply]
    omega

end Cert.Proof.Block
-- ==== Proof.Output.lean ====
module
public import proofs.«01_k».proof.Proof.Chunks
@[expose] public section

noncomputable section

/-! What the kernel's result holds, from the launch contents: at every place the kernel's row. -/

namespace Cert.Proof.Block

open Idealize.ShloMosaic Idealize.ShloMosaic.TcCoe Idealize.SL.Sem Idealize.ShloMosaic.StableHlo
open Idealize.ShloMosaic.SparseCore.Cfg (HIx)
open Idealize.ShloMosaic.Rounds
open Cert.KernelIdeal Cert.KernelIdeal.Gen
open Cert.Proof.Ker Cert.Proof.Ref

set_option maxRecDepth 16384

variable (m : (ℓ : Loc nD τ sig) → Buf (Elt Ideal) ℓ) (d : Dev nD)

/-! ## The means and the shared operands -/

/-- The first pipeline leaves the weights' row means. -/
theorem means0 (V : Dev nD → Valuation τ sig (Elt Ideal)) (O : Dev nD → CellTallies nD τ sig (HIx 3)) (b : ℕ) :
    (dat0 V O b d).arrAt 1 cfg0.N = k0_pay1 (V d (Proc.devRef .tc main_arg4)) := by
  refine (dat0 V O b d).arrAt_eq_of_after_last 1 t0_0 (by decide +kernel) _ fun j => ?_
  blk_simp
  refine (show (dat0 V O b d).after 1 t0_0 j = k0_pay1 (((cfg0.win 0).blk t0_0).view.read (Elt Ideal) (V d (Proc.devRef .tc main_arg4))) j from rfl).trans ?_
  refine congrArg (fun X => k0_pay1 X j) (funext fun y => ?_)
  have e0 : win0_0.index t0_0 = ![0, 0] := by decide +kernel
  blk_ext [e0]

/-- The column of means is that of the weights as launched. -/
theorem W2_v5 : W2 m d (Proc.devRef .tc main_v5) = k0_pay1 (m (d, Proc.devRef .tc main_arg4)) := by
  refine (Pipeline.afterRegion_arr (pdats (W1 m) (owedAt (F := Ideal) 0) (levelAt 0) 0 d) (W1 m d) (kits 0).win.arr_inj 1).trans ?_
  refine (means0 d (W1 m) _ _).trans (congrArg k0_pay1 (line_keeps 0 _ (by decide)))

/-- The padded table of times holds the table's rows. -/
theorem W2_v3 (q : Fin 301) (z : Fin 128) : W2 m d (Proc.devRef .tc main_v3) (ix2 (⟨q.val, by omega⟩ : Fin 304) z) = m (d, Proc.devRef .tc main_arg3) (ix2 q z) := by
  refine (congrFun ((left_keeps (W1 m) _ _ 0 d (by decide)).trans (line0_v3 _)) _).trans ?_
  pointwise
  exact dif_pos fun a => match a with
    | ⟨0, _⟩ => ⟨Nat.zero_le _, Nat.mod_one _, by show (q.val - 0) / 1 < 301; omega⟩
    | ⟨1, _⟩ => ⟨Nat.zero_le _, Nat.mod_one _, by show (z.val - 0) / 1 < 128; omega⟩

/-- The weights with their format changed are the weights. -/
theorem W2_v4 (k : Fin 256) (x : Fin 1024) : W2 m d (Proc.devRef .tc main_v4) (ix2 k x) = m (d, Proc.devRef .tc main_arg4) (ix2 k x) :=
  congrFun ((left_keeps (W1 m) _ _ 0 d (by decide)).trans (line0_v4 _)) _

/-- A valuation whose shared operands stand as after the first dense call holds what the chunks need. -/
theorem shared_of {U : Valuation τ sig (Elt Ideal)} (h3 : U (Proc.devRef .tc main_v3) = W2 m d (Proc.devRef .tc main_v3))
    (h4 : U (Proc.devRef .tc main_v4) = W2 m d (Proc.devRef .tc main_v4)) (h5 : U (Proc.devRef .tc main_v5) = W2 m d (Proc.devRef .tc main_v5)) :
    Shared (m (d, Proc.devRef .tc main_arg3)) (m (d, Proc.devRef .tc main_arg4)) U :=
  ⟨fun q z => (congrFun h3 _).trans (W2_v3 m d q z), fun k x => (congrFun h4 _).trans (W2_v4 m d k x),
    fun k => (congrFun (h5.trans (W2_v5 m d)) _).trans (means_apply _ k 0)⟩

/-! ## The gathered rows at each dense call -/

/-- The gathered array at an index whose list entry is the id of the token `R`. -/
theorem gathered_at {n k : ℕ} (hn : k = 32 * n) (lst : (SIds n).Idx → BitVec 32) (ids : S1024x200.Idx → BitVec 32) (tab : S100000x128.Idx → EReal) (off : ℕ)
    (hl : ∀ (x : (SIds n).Idx) (R : ℕ) (hR : R < 204800), off + ((SIds n).rowMajor x).val = R → lst x = ids (tok R hR))
    (x : Fin k) (y z : Fin 128) (hR : off + 128 * x.val + y.val < 204800) :
    gathered (F := Ideal) hn lst tab (ix3 x y z) = tab (ix2 ⟨(ids (tok (off + 128 * x.val + y.val) hR)).toNat % 100000, Nat.mod_lt _ (by decide)⟩ z) := by
  unfold gathered
  have hx := x.isLt
  refine congrArg tab (funext fun a => ?_)
  match a with
  | ⟨0, _⟩ =>
    refine Fin.ext (congrArg (fun w : BitVec 32 => w.toNat % 100000) (hl _ _ hR ?_))
    rw [Shape.rowMajor_val_three]
    show off + ((x.val / n * n + x.val % n) * 128 + y.val) = off + 128 * x.val + y.val
    have := Nat.div_add_mod x.val n
    rw [Nat.mul_comm] at this
    omega
  | ⟨1, _⟩ => rfl

/-- The first gather's rows, where the first dense call reads them; -/
theorem rows1 (x : Fin 128) (y z : Fin 128) : W9 m d (Proc.devRef .tc main_v8) (ix3 x y z)
    = m (d, Proc.devRef .tc main_arg2) (ix2 (⟨(idsOf m d (tok (0 + 128 * x.val + y.val) (by omega))).toNat % 100000, Nat.mod_lt _ (by decide)⟩ : Fin 100000) z) := by
  have e : W9 m d (Proc.devRef .tc main_v8) = W4 m d (Proc.devRef .tc main_v8) :=
    (line_keeps 4 _ (by decide)).trans ((Function.update_of_ne (devRef_ne_of_ne (by decide)) _ _).trans ((line_keeps 3 _ (by decide)).trans
      ((Function.update_of_ne (devRef_ne_of_ne (by decide)) _ _).trans (line_keeps 2 _ (by decide)))))
  have e2 : W3 m d (Proc.devRef .tc main_arg2) = m (d, Proc.devRef .tc main_arg2) := (kept_late d (by decide)).1.trans (kept_early m d (by decide) (by decide))
  refine (congrFun (e.trans (Function.update_self _ _ _)) _).trans ?_
  rw [e2]
  exact gathered_at rfl _ (idsOf m d) _ 0 (fun x R hR h => ids1 m d x R hR h) x y z (by omega)

/-- the second's, at the second; -/
theorem rows2 (x : Fin 384) (y z : Fin 128) : W11 m d (Proc.devRef .tc main_v11) (ix3 x y z)
    = m (d, Proc.devRef .tc main_arg2) (ix2 (⟨(idsOf m d (tok (16384 + 128 * x.val + y.val) (by omega))).toNat % 100000, Nat.mod_lt _ (by decide)⟩ : Fin 100000) z) := by
  have e : W11 m d (Proc.devRef .tc main_v11) = W6 m d (Proc.devRef .tc main_v11) :=
    (line_keeps 5 _ (by decide)).trans ((left_keeps (W9 m) _ _ 1 d (by decide)).trans ((line_keeps 4 _ (by decide)).trans
      ((Function.update_of_ne (devRef_ne_of_ne (by decide)) _ _).trans (line_keeps 3 _ (by decide)))))
  have e2 : W5 m d (Proc.devRef .tc main_arg2) = m (d, Proc.devRef .tc main_arg2) := (kept_late d (by decide)).2.2.1.trans (kept_early m d (by decide) (by decide))
  refine (congrFun (e.trans (Function.update_self _ _ _)) _).trans ?_
  rw [e2]
  exact gathered_at rfl _ (idsOf m d) _ 16384 (fun x R hR h => ids2 m d x R hR h) x y z (by omega)

/-- the third's, at the third. -/
theorem rows3 (x : Fin 1088) (y z : Fin 128) : W13 m d (Proc.devRef .tc main_v14) (ix3 x y z)
    = m (d, Proc.devRef .tc main_arg2) (ix2 (⟨(idsOf m d (tok (65536 + 128 * x.val + y.val) (by omega))).toNat % 100000, Nat.mod_lt _ (by decide)⟩ : Fin 100000) z) := by
  have e : W13 m d (Proc.devRef .tc main_v14) = W8 m d (Proc.devRef .tc main_v14) :=
    (line_keeps 6 _ (by decide)).trans ((left_keeps (W11 m) _ _ 2 d (by decide)).trans ((line_keeps 5 _ (by decide)).trans
      ((left_keeps (W9 m) _ _ 1 d (by decide)).trans (line_keeps 4 _ (by decide)))))
  have e2 : W7 m d (Proc.devRef .tc main_arg2) = m (d, Proc.devRef .tc main_arg2) := (kept_late d (by decide)).2.2.2.2.1.trans (kept_early m d (by decide) (by decide))
  refine (congrFun (e.trans (Function.update_self _ _ _)) _).trans ?_
  rw [e2]
  exact gathered_at rfl _ (idsOf m d) _ 65536 (fun x R hR h => ids3 m d x R hR h) x y z (by omega)

/-! ## The times at each dense call -/

/-- Where a block's row stands in the flat times. -/
theorem rowMajor_times {n : ℕ} (t : Fin n) (r : Fin 4096) :
    ((⟨3, ![n, 1, 4096]⟩ : Shape).rowMajor (ix3 t (0 : Fin 1) r)).val = 4096 * t.val + r.val := by
  rw [Shape.rowMajor_val_three]
  show (t.val * 1 + 0) * 4096 + r.val = _
  omega

/-- The times that the first projection reads. -/
theorem at1 (t : Fin 4) (r : Fin 4096) : W9 m d (Proc.devRef .tc main_v16) (ix3 t (0 : Fin 1) r) = timesOf m d (tok (0 + 4096 * t.val + r.val) (by omega)) :=
  times1 m d _ _ _ ((congrArg (0 + ·) (rowMajor_times t r)).trans (Nat.add_assoc _ _ _).symm)
/-- The times that the second projection reads. -/
theorem at2 (t : Fin 12) (r : Fin 4096) : W11 m d (Proc.devRef .tc main_v19) (ix3 t (0 : Fin 1) r) = timesOf m d (tok (16384 + 4096 * t.val + r.val) (by omega)) :=
  times2 m d _ _ _ ((congrArg (16384 + ·) (rowMajor_times t r)).trans (Nat.add_assoc _ _ _).symm)
/-- The times that the third projection reads. -/
theorem at3 (t : Fin 34) (r : Fin 4096) : W13 m d (Proc.devRef .tc main_v22) (ix3 t (0 : Fin 1) r) = timesOf m d (tok (65536 + 4096 * t.val + r.val) (by omega)) :=
  times3 m d _ _ _ ((congrArg (65536 + ·) (rowMajor_times t r)).trans (Nat.add_assoc _ _ _).symm)

/-! ## The result -/

/-- The kernel's rows, of the launch contents. -/
abbrev target : S204800x1024.Idx → EReal :=
  rowsOut (idsOf m d) (timesOf m d) (m (d, Proc.devRef .tc main_arg2)) (m (d, Proc.devRef .tc main_arg3)) (m (d, Proc.devRef .tc main_arg4))

/-- After the first dense call the rows before 16384 are the kernel's; -/
theorem W10_v17 (i : S204800x1024.Idx) (hi : (i 0).val < 16384) : W10 m d (Proc.devRef .tc main_v17) i = target m d i := by
  have k := kept_late (m := m) d (r := main_v3) (by decide)
  have k' := kept_late (m := m) d (r := main_v4) (by decide)
  have k'' := kept_late (m := m) d (r := main_v5) (by decide)
  refine (congrFun (Pipeline.afterRegion_arr (pdats (W9 m) (owedAt (F := Ideal) 3) (levelAt 3) 1 d) (W9 m d) (kits 1).win.arr_inj 5) i).trans ?_
  refine (congrFun (chunk1 (W9 m) _ _ d (shared_of m d k.2.2.2.2.2.2.1 k'.2.2.2.2.2.2.1 k''.2.2.2.2.2.2.1) ⟨rows1 m d, at1 m d⟩) i).trans ?_
  exact if_pos hi

/-- after the second, those before 65536; -/
theorem W12_v20 (i : S204800x1024.Idx) (hi : (i 0).val < 65536) : W12 m d (Proc.devRef .tc main_v20) i = target m d i := by
  have k := kept_late (m := m) d (r := main_v3) (by decide)
  have k' := kept_late (m := m) d (r := main_v4) (by decide)
  have k'' := kept_late (m := m) d (r := main_v5) (by decide)
  refine (congrFun (Pipeline.afterRegion_arr (pdats (W11 m) (owedAt (F := Ideal) 3) (levelAt 3) 2 d) (W11 m d) (kits 2).win.arr_inj 5) i).trans ?_
  refine (congrFun (chunk2 (W11 m) _ _ d (shared_of m d k.2.2.2.2.2.2.2.2.1 k'.2.2.2.2.2.2.2.2.1 k''.2.2.2.2.2.2.2.2.1) ⟨rows2 m d, at2 m d⟩) i).trans ?_
  by_cases h : 16384 ≤ (i 0).val
  · exact if_pos ⟨h, hi⟩
  · refine (if_neg fun e => h e.1).trans ?_
    exact (congrFun (line5_v20 (W10 m d)) i).trans (W10_v17 m d i (by omega))

/-- after the third, all. -/
theorem W14_v23 (i : S204800x1024.Idx) : W14 m d (Proc.devRef .tc main_v23) i = target m d i := by
  have k := kept_late (m := m) d (r := main_v3) (by decide)
  have k' := kept_late (m := m) d (r := main_v4) (by decide)
  have k'' := kept_late (m := m) d (r := main_v5) (by decide)
  refine (congrFun (Pipeline.afterRegion_arr (pdats (W13 m) (owedAt (F := Ideal) 3) (levelAt 3) 3 d) (W13 m d) (kits 3).win.arr_inj 5) i).trans ?_
  refine (congrFun (chunk3 (W13 m) _ _ d (shared_of m d k.2.2.2.2.2.2.2.2.2.2.1 k'.2.2.2.2.2.2.2.2.2.2.1 k''.2.2.2.2.2.2.2.2.2.2.1) ⟨rows3 m d, at3 m d⟩) i).trans ?_
  by_cases h : 65536 ≤ (i 0).val
  · exact if_pos h
  · refine (if_neg h).trans ?_
    exact (congrFun (line6_v23 (W12 m d)) i).trans (W12_v20 m d i (by omega))

/-- The place that a flat token number names. -/
theorem tok_of (i : Fin 1024) (j : Fin 200) (h : i.val * 200 + j.val < 204800) : tok (i.val * 200 + j.val) h = ix2 i j := by
  funext a
  match a with
  | ⟨0, _⟩ => exact Fin.ext (by show (i.val * 200 + j.val) / 200 = i.val; omega)
  | ⟨1, _⟩ => exact Fin.ext (by show (i.val * 200 + j.val) % 200 = j.val; omega)

/-- The reshape of the flat rows, read at an index. -/
theorem reshape_at {α : Type} (X : S204800x1024.Idx → α) (h0 : S204800x1024.ShapeCasts S1024x200x1024) (i : Fin 1024) (j : Fin 200) (c : Fin 1024)
    (h : i.val * 200 + j.val < 204800) : shapeCast S1024x200x1024 X h0 (ix3 i j c) = X (ix2 (⟨i.val * 200 + j.val, h⟩ : Fin 204800) c) := by
  unfold shapeCast
  refine congrArg X (Shape.reshapeEquiv_eq_of_rowMajor _ ?_)
  rw [Shape.rowMajor_val_two, Shape.rowMajor_val_three]
  show (i.val * 200 + j.val) * 1024 + c.val = (i.val * 200 + j.val) * 1024 + c.val
  rfl

/-- The kernel's result: at every place the kernel's row. -/
theorem result_apply (i : Fin 1024) (j : Fin 200) (c : Fin 1024) : W15 m d (Proc.devRef .tc main_v24) (ix3 i j c)
    = rowAt (idsOf m d) (timesOf m d) (m (d, Proc.devRef .tc main_arg2)) (m (d, Proc.devRef .tc main_arg3)) (m (d, Proc.devRef .tc main_arg4)) (ix2 i j) c := by
  refine (congrFun (line7_v24 (W14 m d)) _).trans ?_
  have h : i.val * 200 + j.val < 204800 := by omega
  refine (reshape_at (W14 m d (Proc.devRef .tc main_v23)) _ i j c h).trans ((W14_v23 m d _).trans ?_)
  exact congrArg (fun p => rowAt _ _ _ _ _ p c) (tok_of i j h)

end Cert.Proof.Block
-- ==== Proof.Plain.lean ====
/- What the value claim's precondition says of the launch arrays: every id names a row of the table, the two tables and the
   weights hold finite numbers, the bias and the shift are zero and the scale is one. The frames under it. -/
module

public import proofs.«01_k».proof.Proof.Frames
public import Idealize.ShloMosaic.Lib.IdealHost

@[expose] public section

noncomputable section

namespace Cert.Proof.Ker

open Cert.KernelIdeal Cert.KernelIdeal.Gen
open Idealize.ShloMosaic Idealize.SL.Sem

/-- The shape facts of the second precondition. -/
theorem preNorm : Cert.Pre_ids_in_table_plain_norm.Facts :=
  ⟨by decide, by decide, by decide, by decide, by decide, by decide, by decide, by decide, by decide, by decide, by decide⟩

/-- A scalar has one index. -/
instance : Subsingleton Cert.Pre_ids_in_table_plain_norm.S_.Idx := inferInstanceAs (Subsingleton (∀ k : Fin 0, Fin _))

attribute [local instance] preNorm

/-- What the second precondition says of the arrays. -/
structure Plain (a0 : IVec Cert.Pre_ids_in_table_plain_norm.S1024x200 32) (a2 : FVec Ideal Cert.Pre_ids_in_table_plain_norm.S100000x128 .f32)
    (a3 : FVec Ideal Cert.Pre_ids_in_table_plain_norm.S301x128 .f32) (a4 : FVec Ideal Cert.Pre_ids_in_table_plain_norm.S256x1024 .f32)
    (a5 a6 a7 : FVec Ideal Cert.Pre_ids_in_table_plain_norm.S1024 .f32) : Prop where
  /-- every id names a row -/
  ids : ∀ x, (a0 x).toNat < 100000
  /-- the id table is finite -/
  tab : ∀ x, max (a2 x : EReal) (-a2 x) < ⊤
  /-- the time table is finite -/
  times : ∀ x, max (a3 x : EReal) (-a3 x) < ⊤
  /-- the weights are finite -/
  weights : ∀ x, max (a4 x : EReal) (-a4 x) < ⊤
  /-- no bias -/
  bias : ∀ x, (a5 x : EReal) = 0
  /-- unit scale -/
  scale : ∀ x, (a6 x : EReal) = 1
  /-- no shift -/
  shift : ∀ x, (a7 x : EReal) = 0

/-- The second precondition says so. -/
theorem plain_of_pre (a0 a1 : IVec _ 32) (a2 a3 a4 a5 a6 a7) (e : Cert.Pre_ids_in_table_plain_norm.fn (F := Ideal) a0 a1 a2 a3 a4 a5 a6 a7 = fun _ => 1#1) :
    Plain a0 a2 a3 a4 a5 a6 a7 := by
  have e := congrFun e (fun k => k.elim0)
  simp only [Cert.Pre_ids_in_table_plain_norm.fn, Cert.Pre_ids_in_table_plain_norm.fn_part1] at e
  obtain ⟨e, e24⟩ := IntOp.andi_eq_one.1 e
  obtain ⟨e30, e13⟩ := IntOp.andi_eq_one.1 e
  obtain ⟨e8, e12⟩ := IntOp.andi_eq_one.1 e13
  obtain ⟨e3, e7⟩ := IntOp.andi_eq_one.1 e8
  obtain ⟨e20, e23⟩ := IntOp.andi_eq_one.1 e24
  obtain ⟨e16, e19⟩ := IntOp.andi_eq_one.1 e20
  have bit (p : Prop) [Decidable p] (h : BitVec.ofBool (decide p) = 1#1) : p := by
    by_contra hp
    rw [decide_eq_false hp] at h
    exact absurd h (by decide)
  have inf : (FloatOps.ofBits .f32 0x7F800000#32 : Ideal .f32) = (⊤ : EReal) := by simp [Ideal.ofBits, Ideal.ieee]
  have one : (FloatOps.ofBits .f32 0x3F800000#32 : Ideal .f32) = (1 : EReal) := Ideal.ofBits_one_f32
  have zero : (FloatOps.ofBits .f32 0x00000000#32 : Ideal .f32) = (0 : EReal) := Ideal.ofBits_zero_f32
  refine ⟨fun x => word_range _ (Host.reduce_andi_all _ _ _ _ _ e30 x), fun x => ?_, fun x => ?_, fun x => ?_, fun x => ?_, fun x => ?_, fun x => ?_⟩
  · exact (bit _ (Host.reduce_andi_all _ _ _ _ _ e3 x)).trans_eq inf
  · exact (bit _ (Host.reduce_andi_all _ _ _ _ _ e7 x)).trans_eq inf
  · exact (bit _ (Host.reduce_andi_all _ _ _ _ _ e12 x)).trans_eq inf
  · exact (bit _ (Host.reduce_andi_all _ _ _ _ _ e16 x)).trans zero
  · exact (bit _ (Host.reduce_andi_all _ _ _ _ _ e19 x)).trans one
  · exact (bit _ (Host.reduce_andi_all _ _ _ _ _ e23 x)).trans zero
/-- The second precondition on a device's launch arrays. -/
theorem plain_of {m : (ℓ : Loc nD τ sig) → Buf (Elt Ideal) ℓ} (h : Cert.Pre_KernelIdeal_ids_in_table_plain_norm m) (c : Dev nD) :
    Plain (m ((c.tc : Thread nD τ).loc main_arg0)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) :=
  plain_of_pre _ _ _ _ _ _ _ _ (h c)

/-- The same under the value claim's precondition. -/
theorem frame_ideal_plain : Cert.quiescent_KernelIdeal_pre_ids_in_table_plain_norm := fun m ρ h =>
  (θ_run (Cert.KernelIdeal.defs (F := Ideal)) _ _).mono (fun _ h => ⟨args_kept h, h.2⟩)
    (run_main (F := Ideal) m ρ (inTable_of m fun d x => (plain_of h d).ids x))

/-- The same under the value claim's precondition. -/
theorem frame_ref_plain : Cert.quiescent_ReferenceIdeal_pre_ids_in_table_plain_norm := fun m ρ _ => frame_ref m ρ trivial

end Cert.Proof.Ker

end
-- ==== Proof.Value.lean ====
module
public import proofs.«01_k».proof.Proof.Output
public import proofs.«01_k».proof.Proof.Plain
@[expose] public section

noncomputable section

/-! The kernel's result is the reference's: both hold, at every place, the normalised row of that place's embedded entries. -/

namespace Cert.Proof.Block

open Idealize.ShloMosaic Idealize.ShloMosaic.TcCoe Idealize.SL.Sem
open Cert.Proof.Ker Cert.Proof.Ref

/-- A number smaller in size than infinity is a real. -/
theorem real_of {x : EReal} (h : max x (-x) < ⊤) : ((x.toReal : ℝ) : EReal) = x := by
  refine EReal.coe_toReal (fun e => ?_) (fun e => ?_)
  · rw [e] at h
    exact absurd (lt_of_le_of_lt (le_max_left _ _) h) (lt_irrefl _)
  · rw [e] at h
    exact absurd (lt_of_le_of_lt (le_max_right _ _) h) (by rw [EReal.neg_bot]; exact lt_irrefl _)

/-- On finite tables and weights the kernel's row is the reference's row of the same embedded entries. -/
theorem row_agree (z : EReal) (e : Fin 256 → EReal) (w : Fin 256 → Fin 1024 → EReal) (he : ∀ k, max (e k) (-e k) < ⊤) (hw : ∀ k x, max (w k x) (-w k x) < ⊤)
    (c : Fin 1024) : Row.kerRow e w c = Row.refRow z (fun x => ∑ k, e k * w k x) c := by
  have := Row.row_eq z (fun k => (e k).toReal) (fun k x => (w k x).toReal) c
  simpa only [real_of (he _), real_of (hw _ _)] using this

/-- Two finite rows joined are finite. -/
theorem join_finite {a t : Fin 128 → EReal} (ha : ∀ k, max (a k) (-a k) < ⊤) (ht : ∀ k, max (t k) (-t k) < ⊤) (k : Fin 256) :
    max (join a t k) (-join a t k) < ⊤ := by
  unfold join
  split_ifs
  · exact ha _
  · exact ht _

/-- On arguments as the second precondition says, the reference's chain of stages is the kernel's row at every place. -/
theorem chain_eq (ids el : IVec Cert.ReferenceIdeal.S1024x200 32) (tab : Vec Ideal Cert.ReferenceIdeal.S100000x128 .f32) (tt : Vec Ideal Cert.ReferenceIdeal.S301x128 .f32)
    (W : Vec Ideal Cert.ReferenceIdeal.S256x1024 .f32) (b g s : Vec Ideal Cert.ReferenceIdeal.S1024 .f32) (h : Plain ids tab tt W b g s)
    (i : Fin 1024) (j : Fin 200) (c : Fin 1024) :
    rowAt ids el tab tt W (ix2 i j) c = normed (hidden (idRows ids tab) (timeRows el tt) W b) g s (ix3 i j c) := by
  rw [chain_apply ids el tab tt W b g s i j c (h.ids _) h.bias h.scale h.shift]
  unfold rowAt
  rw [row_agree spare _ _ (join_finite (fun _ => h.tab _) (fun _ => h.times _)) (fun _ _ => h.weights _)]
  simp only [Nat.mod_eq_of_lt (h.ids (ix2 i j))]

attribute [local instance] preNorm

/-- An index of the result is the triple of its coordinates. -/
theorem triple_eq (y : Cert.KernelIdeal.S1024x200x1024.Idx) : y = ix3 (y 0 : Fin 1024) (y 1 : Fin 200) (y 2 : Fin 1024) :=
  funext fun a => match a with | ⟨0, _⟩ => rfl | ⟨1, _⟩ => rfl | ⟨2, _⟩ => rfl

/-- The two results are one array. -/
theorem result_eq (m : (ℓ : Loc Cert.KernelIdeal.nD Cert.KernelIdeal.τ Cert.KernelIdeal.sig) → Buf (Elt Ideal) ℓ) (h : Cert.Pre_KernelIdeal_ids_in_table_plain_norm m)
    (c : Dev Cert.KernelIdeal.nD) :
    (W15 m c (Proc.devRef .tc Cert.KernelIdeal.main_v24) : Cert.KernelIdeal.S1024x200x1024.Idx → EReal)
      = normed (hidden (idRows (m (c.tc.loc Cert.KernelIdeal.main_arg0)) (m (c.tc.loc Cert.KernelIdeal.main_arg2))) (timeRows (m (c.tc.loc Cert.KernelIdeal.main_arg1)) (m (c.tc.loc Cert.KernelIdeal.main_arg3)))
        (m (c.tc.loc Cert.KernelIdeal.main_arg4)) (m (c.tc.loc Cert.KernelIdeal.main_arg5))) (m (c.tc.loc Cert.KernelIdeal.main_arg6)) (m (c.tc.loc Cert.KernelIdeal.main_arg7)) := by
  funext y
  rw [triple_eq y]
  exact (result_apply m c _ _ _).trans (chain_eq _ _ _ _ _ _ _ _ (plain_of h c) _ _ _)

/-- From arguments as the second precondition says, the kernel and the reference, run over the extended reals, leave one and the same
    result, their arguments unchanged. -/
theorem algebraic : Cert.algebraic_KernelIdeal_ReferenceIdeal_pre_ids_in_table_plain_norm := by
  intro m g m' g' hp hm
  refine ⟨fun c => W15 m c (Proc.devRef .tc Cert.KernelIdeal.main_v24), ?_, ?_⟩
  · exact (θ_run (Cert.KernelIdeal.defs (F := Ideal)) _ _).mono (fun r h c => ⟨h.1 c (Proc.devRef .tc Cert.KernelIdeal.main_v24) (by decide), args_kept h c⟩)
      (run_main (F := Ideal) m g (inTable_of m fun d x => (plain_of hp d).ids x))
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7⟩ := hm c
    refine (res_eq m' c).trans ?_
    rw [h0, h1, h2, h3, h4, h5, h6, h7]
    exact (result_eq m hp c).symm

end Cert.Proof.Block
-- ==== Proof.lean ====
/- The claims, assembled: the frames of the kernel and of the reference, that the idealized kernel is the
   kernel's own text, and that kernel and reference compute one function over the extended reals. -/
module

public import proofs.«01_k».proof.Defs
public import proofs.«01_k».proof.Proof.Frames
public import proofs.«01_k».proof.Proof.Value

@[expose] public section

noncomputable section

namespace Cert.Proof

open Idealize.ShloMosaic Idealize.SL.Sem

/-- Every claim of this certificate. -/
theorem claim : Cert.Claim :=
  ⟨Cert.Kernel.Gen.facts, Cert.KernelIdeal.Gen.facts, Cert.ReferenceIdeal.Gen.facts, Ker.preIds, Ker.preNorm,
    Ker.frame_kernel, Ker.frame_ideal, Ker.frame_ideal_plain, Ker.frame_ref, Ker.frame_ref_plain, trivial, Block.algebraic⟩

end Cert.Proof

end
